-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8)
      ∧ r.2.mem ((c.tc : Thread Cert.KernelIn.nD Cert.KernelIn.τ).loc Cert.KernelIn.main_arg9) = m ((c.tc : Thread Cert.KernelIn.nD Cert.KernelIn.τ).loc Cert.KernelIn.main_arg9)
      ∧ r.2.mem ((c.tc : Thread Cert.KernelIn.nD Cert.KernelIn.τ).loc Cert.KernelIn.main_arg10) = m ((c.tc : Thread Cert.KernelIn.nD Cert.KernelIn.τ).loc Cert.KernelIn.main_arg10)
      ∧ r.2.mem ((c.tc : Thread Cert.KernelIn.nD Cert.KernelIn.τ).loc Cert.KernelIn.main_arg11) = m ((c.tc : Thread Cert.KernelIn.nD Cert.KernelIn.τ).loc Cert.KernelIn.main_arg11)
      ∧ r.2.mem ((c.tc : Thread Cert.KernelIn.nD Cert.KernelIn.τ).loc Cert.KernelIn.main_arg12) = m ((c.tc : Thread Cert.KernelIn.nD Cert.KernelIn.τ).loc Cert.KernelIn.main_arg12)
      ∧ r.2.mem ((c.tc : Thread Cert.KernelIn.nD Cert.KernelIn.τ).loc Cert.KernelIn.main_arg13) = m ((c.tc : Thread Cert.KernelIn.nD Cert.KernelIn.τ).loc Cert.KernelIn.main_arg13))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
      ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
      ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
      ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11)
      ∧ r.2.mem ((c.tc : Thread Cert.KernelInIdeal.nD Cert.KernelInIdeal.τ).loc Cert.KernelInIdeal.main_arg12) = m ((c.tc : Thread Cert.KernelInIdeal.nD Cert.KernelInIdeal.τ).loc Cert.KernelInIdeal.main_arg12)
      ∧ r.2.mem ((c.tc : Thread Cert.KernelInIdeal.nD Cert.KernelInIdeal.τ).loc Cert.KernelInIdeal.main_arg13) = m ((c.tc : Thread Cert.KernelInIdeal.nD Cert.KernelInIdeal.τ).loc Cert.KernelInIdeal.main_arg13))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8)
      ∧ r.2.mem ((c.tc : Thread Cert.ReferenceInIdeal.nD Cert.ReferenceInIdeal.τ).loc Cert.ReferenceInIdeal.main_arg9) = m ((c.tc : Thread Cert.ReferenceInIdeal.nD Cert.ReferenceInIdeal.τ).loc Cert.ReferenceInIdeal.main_arg9)
      ∧ r.2.mem ((c.tc : Thread Cert.ReferenceInIdeal.nD Cert.ReferenceInIdeal.τ).loc Cert.ReferenceInIdeal.main_arg10) = m ((c.tc : Thread Cert.ReferenceInIdeal.nD Cert.ReferenceInIdeal.τ).loc Cert.ReferenceInIdeal.main_arg10)
      ∧ r.2.mem ((c.tc : Thread Cert.ReferenceInIdeal.nD Cert.ReferenceInIdeal.τ).loc Cert.ReferenceInIdeal.main_arg11) = m ((c.tc : Thread Cert.ReferenceInIdeal.nD Cert.ReferenceInIdeal.τ).loc Cert.ReferenceInIdeal.main_arg11)
      ∧ r.2.mem ((c.tc : Thread Cert.ReferenceInIdeal.nD Cert.ReferenceInIdeal.τ).loc Cert.ReferenceInIdeal.main_arg12) = m ((c.tc : Thread Cert.ReferenceInIdeal.nD Cert.ReferenceInIdeal.τ).loc Cert.ReferenceInIdeal.main_arg12)
      ∧ r.2.mem ((c.tc : Thread Cert.ReferenceInIdeal.nD Cert.ReferenceInIdeal.τ).loc Cert.ReferenceInIdeal.main_arg13) = m ((c.tc : Thread Cert.ReferenceInIdeal.nD Cert.ReferenceInIdeal.τ).loc Cert.ReferenceInIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)
      ∧ m' ((c.tc : Thread Cert.ReferenceInIdeal.nD Cert.ReferenceInIdeal.τ).loc Cert.ReferenceInIdeal.main_arg9) = m ((c.tc : Thread Cert.KernelInIdeal.nD Cert.KernelInIdeal.τ).loc Cert.KernelInIdeal.main_arg9)
      ∧ m' ((c.tc : Thread Cert.ReferenceInIdeal.nD Cert.ReferenceInIdeal.τ).loc Cert.ReferenceInIdeal.main_arg10) = m ((c.tc : Thread Cert.KernelInIdeal.nD Cert.KernelInIdeal.τ).loc Cert.KernelInIdeal.main_arg10)
      ∧ m' ((c.tc : Thread Cert.ReferenceInIdeal.nD Cert.ReferenceInIdeal.τ).loc Cert.ReferenceInIdeal.main_arg11) = m ((c.tc : Thread Cert.KernelInIdeal.nD Cert.KernelInIdeal.τ).loc Cert.KernelInIdeal.main_arg11)
      ∧ m' ((c.tc : Thread Cert.ReferenceInIdeal.nD Cert.ReferenceInIdeal.τ).loc Cert.ReferenceInIdeal.main_arg12) = m ((c.tc : Thread Cert.KernelInIdeal.nD Cert.KernelInIdeal.τ).loc Cert.KernelInIdeal.main_arg12)
      ∧ m' ((c.tc : Thread Cert.ReferenceInIdeal.nD Cert.ReferenceInIdeal.τ).loc Cert.ReferenceInIdeal.main_arg13) = m ((c.tc : Thread Cert.KernelInIdeal.nD Cert.KernelInIdeal.τ).loc Cert.KernelInIdeal.main_arg13)) →
    ∃ (v0 : (c : Dev Cert.KernelInIdeal.nD) → Buf (Elt Ideal) ((c.tc : Thread Cert.KernelInIdeal.nD Cert.KernelInIdeal.τ).loc Cert.KernelInIdeal.main_v72_0)) (v1 : (c : Dev Cert.KernelInIdeal.nD) → Buf (Elt Ideal) ((c.tc : Thread Cert.KernelInIdeal.nD Cert.KernelInIdeal.τ).loc Cert.KernelInIdeal.main_v72_1)) (v2 : (c : Dev Cert.KernelInIdeal.nD) → Buf (Elt Ideal) ((c.tc : Thread Cert.KernelInIdeal.nD Cert.KernelInIdeal.τ).loc Cert.KernelInIdeal.main_v72_2)) (v3 : (c : Dev Cert.KernelInIdeal.nD) → Buf (Elt Ideal) ((c.tc : Thread Cert.KernelInIdeal.nD Cert.KernelInIdeal.τ).loc Cert.KernelInIdeal.main_v72_3)) (v4 : (c : Dev Cert.KernelInIdeal.nD) → Buf (Elt Ideal) ((c.tc : Thread Cert.KernelInIdeal.nD Cert.KernelInIdeal.τ).loc Cert.KernelInIdeal.main_v72_4)) (v5 : (c : Dev Cert.KernelInIdeal.nD) → Buf (Elt Ideal) ((c.tc : Thread Cert.KernelInIdeal.nD Cert.KernelInIdeal.τ).loc Cert.KernelInIdeal.main_v72_5)) (v6 : (c : Dev Cert.KernelInIdeal.nD) → Buf (Elt Ideal) ((c.tc : Thread Cert.KernelInIdeal.nD Cert.KernelInIdeal.τ).loc Cert.KernelInIdeal.main_v72_6)) (v7 : (c : Dev Cert.KernelInIdeal.nD) → Buf (Elt Ideal) ((c.tc : Thread Cert.KernelInIdeal.nD Cert.KernelInIdeal.τ).loc Cert.KernelInIdeal.main_v72_7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v72_0) = v0 c
          ∧ r.2.mem ((c.tc : Thread Cert.KernelInIdeal.nD Cert.KernelInIdeal.τ).loc Cert.KernelInIdeal.main_v72_1) = v1 c
          ∧ r.2.mem ((c.tc : Thread Cert.KernelInIdeal.nD Cert.KernelInIdeal.τ).loc Cert.KernelInIdeal.main_v72_2) = v2 c
          ∧ r.2.mem ((c.tc : Thread Cert.KernelInIdeal.nD Cert.KernelInIdeal.τ).loc Cert.KernelInIdeal.main_v72_3) = v3 c
          ∧ r.2.mem ((c.tc : Thread Cert.KernelInIdeal.nD Cert.KernelInIdeal.τ).loc Cert.KernelInIdeal.main_v72_4) = v4 c
          ∧ r.2.mem ((c.tc : Thread Cert.KernelInIdeal.nD Cert.KernelInIdeal.τ).loc Cert.KernelInIdeal.main_v72_5) = v5 c
          ∧ r.2.mem ((c.tc : Thread Cert.KernelInIdeal.nD Cert.KernelInIdeal.τ).loc Cert.KernelInIdeal.main_v72_6) = v6 c
          ∧ r.2.mem ((c.tc : Thread Cert.KernelInIdeal.nD Cert.KernelInIdeal.τ).loc Cert.KernelInIdeal.main_v72_7) = v7 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
          ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
          ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
          ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11)
          ∧ r.2.mem ((c.tc : Thread Cert.KernelInIdeal.nD Cert.KernelInIdeal.τ).loc Cert.KernelInIdeal.main_arg12) = m ((c.tc : Thread Cert.KernelInIdeal.nD Cert.KernelInIdeal.τ).loc Cert.KernelInIdeal.main_arg12)
          ∧ r.2.mem ((c.tc : Thread Cert.KernelInIdeal.nD Cert.KernelInIdeal.τ).loc Cert.KernelInIdeal.main_arg13) = m ((c.tc : Thread Cert.KernelInIdeal.nD Cert.KernelInIdeal.τ).loc Cert.KernelInIdeal.main_arg13))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v156) = v0 c
          ∧ r.2.mem ((c.tc : Thread Cert.ReferenceInIdeal.nD Cert.ReferenceInIdeal.τ).loc Cert.ReferenceInIdeal.main_v157) = v1 c
          ∧ r.2.mem ((c.tc : Thread Cert.ReferenceInIdeal.nD Cert.ReferenceInIdeal.τ).loc Cert.ReferenceInIdeal.main_v159) = v2 c
          ∧ r.2.mem ((c.tc : Thread Cert.ReferenceInIdeal.nD Cert.ReferenceInIdeal.τ).loc Cert.ReferenceInIdeal.main_v161) = v3 c
          ∧ r.2.mem ((c.tc : Thread Cert.ReferenceInIdeal.nD Cert.ReferenceInIdeal.τ).loc Cert.ReferenceInIdeal.main_v163) = v4 c
          ∧ r.2.mem ((c.tc : Thread Cert.ReferenceInIdeal.nD Cert.ReferenceInIdeal.τ).loc Cert.ReferenceInIdeal.main_v164) = v5 c
          ∧ r.2.mem ((c.tc : Thread Cert.ReferenceInIdeal.nD Cert.ReferenceInIdeal.τ).loc Cert.ReferenceInIdeal.main_v165) = v6 c
          ∧ r.2.mem ((c.tc : Thread Cert.ReferenceInIdeal.nD Cert.ReferenceInIdeal.τ).loc Cert.ReferenceInIdeal.main_v166) = v7 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8)
          ∧ r.2.mem ((c.tc : Thread Cert.ReferenceInIdeal.nD Cert.ReferenceInIdeal.τ).loc Cert.ReferenceInIdeal.main_arg9) = m' ((c.tc : Thread Cert.ReferenceInIdeal.nD Cert.ReferenceInIdeal.τ).loc Cert.ReferenceInIdeal.main_arg9)
          ∧ r.2.mem ((c.tc : Thread Cert.ReferenceInIdeal.nD Cert.ReferenceInIdeal.τ).loc Cert.ReferenceInIdeal.main_arg10) = m' ((c.tc : Thread Cert.ReferenceInIdeal.nD Cert.ReferenceInIdeal.τ).loc Cert.ReferenceInIdeal.main_arg10)
          ∧ r.2.mem ((c.tc : Thread Cert.ReferenceInIdeal.nD Cert.ReferenceInIdeal.τ).loc Cert.ReferenceInIdeal.main_arg11) = m' ((c.tc : Thread Cert.ReferenceInIdeal.nD Cert.ReferenceInIdeal.τ).loc Cert.ReferenceInIdeal.main_arg11)
          ∧ r.2.mem ((c.tc : Thread Cert.ReferenceInIdeal.nD Cert.ReferenceInIdeal.τ).loc Cert.ReferenceInIdeal.main_arg12) = m' ((c.tc : Thread Cert.ReferenceInIdeal.nD Cert.ReferenceInIdeal.τ).loc Cert.ReferenceInIdeal.main_arg12)
          ∧ r.2.mem ((c.tc : Thread Cert.ReferenceInIdeal.nD Cert.ReferenceInIdeal.τ).loc Cert.ReferenceInIdeal.main_arg13) = m' ((c.tc : Thread Cert.ReferenceInIdeal.nD Cert.ReferenceInIdeal.τ).loc Cert.ReferenceInIdeal.main_arg13))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
-- ==== Pre_finite_scores.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x4096x512 : Shape := ⟨3, ![16, 4096, 512]⟩
abbrev S_ : Shape := ⟨0, ![]⟩

class Facts : Prop where
  bcast_S_S16x4096x8x64 : S_.BroadcastsInDim S16x4096x8x64 (![] : Fin 0 → Fin S16x4096x8x64.rank)
  bcast_S_S16x4096x8x32 : S_.BroadcastsInDim S16x4096x8x32 (![] : Fin 0 → Fin S16x4096x8x32.rank)
  bcast_S_S16x4096x32 : S_.BroadcastsInDim S16x4096x32 (![] : Fin 0 → Fin S16x4096x32.rank)

variable [Facts]

def fn {F : FTy → Type} [FloatOps F] (main_arg0 : FVec F S16x4096x8x64 .f32) (main_arg1 : FVec F S16x4096x8x32 .f32) (main_arg2 : FVec F S16x4096x8x64 .f32) (main_arg3 : FVec F S16x4096x32 .f32) (main_arg4 : FVec F S16x4096x8x64 .f32) (main_arg5 : FVec F S16x4096x512 .f32) : IVec S16x4096x8x64 1 × IVec S16x4096x8x32 1 × IVec S16x4096x8x64 1 × IVec S16x4096x32 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_v3 : FVec F S16x4096x8x32 .f32 := Host.absf main_arg1
  let main_cst_0 : FVec F S_ .f32 := constant S_ .f32 0x7F800000#32
  let main_v4 : FVec F S16x4096x8x32 .f32 := broadcastInDim S16x4096x8x32 ![] bcast_S_S16x4096x8x32 main_cst_0
  let main_v5 : IVec S16x4096x8x32 1 := cmpf .olt main_v3 main_v4
  let main_v6 : FVec F S16x4096x8x64 .f32 := Host.absf main_arg2
  let main_cst_1 : FVec F S_ .f32 := constant S_ .f32 0x7F800000#32
  let main_v7 : FVec F S16x4096x8x64 .f32 := broadcastInDim S16x4096x8x64 ![] bcast_S_S16x4096x8x64 main_cst_1
  let main_v8 : IVec S16x4096x8x64 1 := cmpf .olt main_v6 main_v7
  let main_v9 : FVec F S16x4096x32 .f32 := Host.absf main_arg3
  let main_cst_2 : FVec F S_ .f32 := constant S_ .f32 0x7F800000#32
  let main_v10 : FVec F S16x4096x32 .f32 := broadcastInDim S16x4096x32 ![] bcast_S_S16x4096x32 main_cst_2
  let main_v11 : IVec S16x4096x32 1 := cmpf .olt main_v9 main_v10
  (main_v2, main_v5, main_v8, main_v11)
-- ==== Kernel.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x4096x512 : Shape := ⟨3, ![16, 4096, 512]⟩
abbrev S_ : Shape := ⟨0, ![]⟩
abbrev S16x4096x8x128 : Shape := ⟨4, ![16, 4096, 8, 128]⟩
abbrev S16x4096x1x32 : Shape := ⟨4, ![16, 4096, 1, 32]⟩
abbrev S16x4096x1024 : Shape := ⟨3, ![16, 4096, 1024]⟩
abbrev S1x4096x256 : Shape := ⟨3, ![1, 4096, 256]⟩
abbrev S1x4096x128 : Shape := ⟨3, ![1, 4096, 128]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S256 : Shape := ⟨1, ![256]⟩

abbrev nBuf : Space → Nat
  | .hbm => 30
  | .vmem => 10
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S16x4096x512, .f32⟩
  | .hbm, ⟨6, _⟩ => ⟨S_, .f32⟩
  | .hbm, ⟨7, _⟩ => ⟨S16x4096x8x64, .f32⟩
  | .hbm, ⟨8, _⟩ => ⟨S16x4096x8x64, .f32⟩
  | .hbm, ⟨9, _⟩ => ⟨S_, .f32⟩
  | .hbm, ⟨10, _⟩ => ⟨S16x4096x8x32, .f32⟩
  | .hbm, ⟨11, _⟩ => ⟨S16x4096x8x32, .f32⟩
  | .hbm, ⟨12, _⟩ => ⟨S_, .f32⟩
  | .hbm, ⟨13, _⟩ => ⟨S16x4096x8x32, .f32⟩
  | .hbm, ⟨14, _⟩ => ⟨S16x4096x8x128, .f32⟩
  | .hbm, ⟨15, _⟩ => ⟨S16x4096x1x32, .f32⟩
  | .hbm, ⟨16, _⟩ => ⟨S16x4096x8x32, .f32⟩
  | .hbm, ⟨17, _⟩ => ⟨S_, .f32⟩
  | .hbm, ⟨18, _⟩ => ⟨S16x4096x8x32, .f32⟩
  | .hbm, ⟨19, _⟩ => ⟨S16x4096x8x128, .f32⟩
  | .hbm, ⟨20, _⟩ => ⟨S_, .f32⟩
  | .hbm, ⟨21, _⟩ => ⟨S16x4096x8x64, .f32⟩
  | .hbm, ⟨22, _⟩ => ⟨S16x4096x8x128, .f32⟩
  | .hbm, ⟨23, _⟩ => ⟨S16x4096x1024, .f32⟩
  | .hbm, ⟨24, _⟩ => ⟨S16x4096x1024, .bf16⟩
  | .hbm, ⟨25, _⟩ => ⟨S16x4096x1024, .f32⟩
  | .hbm, ⟨26, _⟩ => ⟨S16x4096x1024, .bf16⟩
  | .hbm, ⟨27, _⟩ => ⟨S16x4096x1024, .f32⟩
  | .hbm, ⟨28, _⟩ => ⟨S16x4096x1024, .bf16⟩
  | .hbm, ⟨29, _⟩ => ⟨S16x4096x512, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x128, .f32⟩
  | .local _ .vmem, ⟨7, _⟩ => ⟨S1x4096x128, .f32⟩
  | .local _ .vmem, ⟨8, _⟩ => ⟨S1x4096x128, .bf16⟩
  | .local _ .vmem, ⟨9, _⟩ => ⟨S1x4096x128, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_11 : BitVec 32 := 0#32
  let c16_i32 : BitVec 32 := 16#32
  let v51 : BitVec 32 := Scalar.addi c0_i32_11 c16_i32
  let c1_i32_12 : BitVec 32 := 1#32
  ⟨c0_i32_11, v51, c1_i32_12⟩
def k0_mult1 (k0_t1 : Fin k0_t1_loop.trips) : BitVec 32 :=
  let c0_i32_11 : BitVec 32 := 0#32
  let c1_i32_12 : BitVec 32 := 1#32
  let arg7 : BitVec 32 := Scf.iv c0_i32_11 c1_i32_12 k0_t1
  let c256_i32 : BitVec 32 := 256#32
  let v52 : BitVec 32 := Scalar.muli arg7 c256_i32
  v52
def k0_off1 (k0_t1 : Fin k0_t1_loop.trips) : Fin 3 → Nat :=
  let c0 : Index := 0#32
  let c0_i32_11 : BitVec 32 := 0#32
  let c1_i32_12 : BitVec 32 := 1#32
  let arg7 : BitVec 32 := Scf.iv c0_i32_11 c1_i32_12 k0_t1
  let c256_i32 : BitVec 32 := 256#32
  let v52 : BitVec 32 := Scalar.muli arg7 c256_i32
  let v53 : BitVec 32 := v52
  let v54 : Index := Scalar.indexCast v53
  let c0_14 : Index := 0#32
  ![0, v54.toNat, 0]
@[reducible] def k0_t2_loop (k0_t1 : Fin k0_t1_loop.trips) : Scf.Loop 32 :=
  let c0_i32_17 : BitVec 32 := 0#32
  let c0_i32_11 : BitVec 32 := 0#32
  let c1_i32_12 : BitVec 32 := 1#32
  let arg7 : BitVec 32 := Scf.iv c0_i32_11 c1_i32_12 k0_t1
  let v60 : BitVec 32 := Scalar.subi arg7 c0_i32_17
  let c1_i32_18 : BitVec 32 := 1#32
  let v62 : BitVec 32 := Scalar.divsi v60 c1_i32_18
  let v63 : BitVec 32 := Scalar.muli v62 c1_i32_18
  let v64 : BitVec 32 := Scalar.addi c0_i32_17 v63
  let c1_i32_19 : BitVec 32 := 1#32
  ⟨c0_i32_17, v64, c1_i32_19⟩
def k0_mult2 (k0_t1 : Fin k0_t1_loop.trips) (k0_t2 : Fin (k0_t2_loop k0_t1).trips) : BitVec 32 :=
  let c0_i32_17 : BitVec 32 := 0#32
  let c1_i32_19 : BitVec 32 := 1#32
  let arg8 : BitVec 32 := Scf.iv c0_i32_17 c1_i32_19 k0_t2
  let c256_i32_52 : BitVec 32 := 256#32
  let v149 : BitVec 32 := Scalar.muli arg8 c256_i32_52
  v149
def k0_off2 (k0_t1 : Fin k0_t1_loop.trips) (k0_t2 : Fin (k0_t2_loop k0_t1).trips) : Fin 3 → Nat :=
  let c0_53 : Index := 0#32
  let c0_i32_17 : BitVec 32 := 0#32
  let c1_i32_19 : BitVec 32 := 1#32
  let arg8 : BitVec 32 := Scf.iv c0_i32_17 c1_i32_19 k0_t2
  let c256_i32_52 : BitVec 32 := 256#32
  let v149 : BitVec 32 := Scalar.muli arg8 c256_i32_52
  let v150 : BitVec 32 := v149
  let v151 : Index := Scalar.indexCast v150
  let c0_54 : Index := 0#32
  ![0, v151.toNat, 0]
@[reducible] def k0_t3_loop (k0_t1 : Fin k0_t1_loop.trips) : Scf.Loop 32 :=
  let c0_i32_17 : BitVec 32 := 0#32
  let c0_i32_11 : BitVec 32 := 0#32
  let c1_i32_12 : BitVec 32 := 1#32
  let arg7 : BitVec 32 := Scf.iv c0_i32_11 c1_i32_12 k0_t1
  let v60 : BitVec 32 := Scalar.subi arg7 c0_i32_17
  let c1_i32_18 : BitVec 32 := 1#32
  let v62 : BitVec 32 := Scalar.divsi v60 c1_i32_18
  let v63 : BitVec 32 := Scalar.muli v62 c1_i32_18
  let v64 : BitVec 32 := Scalar.addi c0_i32_17 v63
  let v61 : BitVec 32 := Scalar.addi c0_i32_17 v60
  let c1_i32_20 : BitVec 32 := 1#32
  ⟨v64, v61, c1_i32_20⟩
def k0_mult3 (k0_t1 : Fin k0_t1_loop.trips) (k0_t3 : Fin (k0_t3_loop k0_t1).trips) : BitVec 32 :=
  let c0_i32_17 : BitVec 32 := 0#32
  let c0_i32_11 : BitVec 32 := 0#32
  let c1_i32_12 : BitVec 32 := 1#32
  let arg7 : BitVec 32 := Scf.iv c0_i32_11 c1_i32_12 k0_t1
  let v60 : BitVec 32 := Scalar.subi arg7 c0_i32_17
  let c1_i32_18 : BitVec 32 := 1#32
  let v62 : BitVec 32 := Scalar.divsi v60 c1_i32_18
  let v63 : BitVec 32 := Scalar.muli v62 c1_i32_18
  let v64 : BitVec 32 := Scalar.addi c0_i32_17 v63
  let c1_i32_20 : BitVec 32 := 1#32
  let arg8 : BitVec 32 := Scf.iv v64 c1_i32_20 k0_t3
  let c256_i32_52 : BitVec 32 := 256#32
  let v149 : BitVec 32 := Scalar.muli arg8 c256_i32_52
  v149
def k0_off3 (k0_t1 : Fin k0_t1_loop.trips) (k0_t3 : Fin (k0_t3_loop k0_t1).trips) : Fin 3 → Nat :=
  let c0_53 : Index := 0#32
  let c0_i32_17 : BitVec 32 := 0#32
  let c0_i32_11 : BitVec 32 := 0#32
  let c1_i32_12 : BitVec 32 := 1#32
  let arg7 : BitVec 32 := Scf.iv c0_i32_11 c1_i32_12 k0_t1
  let v60 : BitVec 32 := Scalar.subi arg7 c0_i32_17
  let c1_i32_18 : BitVec 32 := 1#32
  let v62 : BitVec 32 := Scalar.divsi v60 c1_i32_18
  let v63 : BitVec 32 := Scalar.muli v62 c1_i32_18
  let v64 : BitVec 32 := Scalar.addi c0_i32_17 v63
  let c1_i32_20 : BitVec 32 := 1#32
  let arg8 : BitVec 32 := Scf.iv v64 c1_i32_20 k0_t3
  let c256_i32_52 : BitVec 32 := 256#32
  let v149 : BitVec 32 := Scalar.muli arg8 c256_i32_52
  let v150 : BitVec 32 := v149
  let v151 : Index := Scalar.indexCast v150
  let c0_54 : Index := 0#32
  ![0, v151.toNat, 0]
def k0_off4 (k0_t1 : Fin k0_t1_loop.trips) : Fin 3 → Nat :=
  let c0_30 : Index := 0#32
  let c0_i32_11 : BitVec 32 := 0#32
  let c1_i32_12 : BitVec 32 := 1#32
  let arg7 : BitVec 32 := Scf.iv c0_i32_11 c1_i32_12 k0_t1
  let c256_i32 : BitVec 32 := 256#32
  let v52 : BitVec 32 := Scalar.muli arg7 c256_i32
  let v53 : BitVec 32 := v52
  let v95 : Index := Scalar.indexCast v53
  let c128 : Index := 128#32
  ![0, v95.toNat, 128]
@[reducible] def k0_t4_loop (k0_t1 : Fin k0_t1_loop.trips) : Scf.Loop 32 :=
  let c0_i32_34 : BitVec 32 := 0#32
  let c0_i32_11 : BitVec 32 := 0#32
  let c1_i32_12 : BitVec 32 := 1#32
  let arg7 : BitVec 32 := Scf.iv c0_i32_11 c1_i32_12 k0_t1
  let v101 : BitVec 32 := Scalar.subi arg7 c0_i32_34
  let c1_i32_35 : BitVec 32 := 1#32
  let v103 : BitVec 32 := Scalar.divsi v101 c1_i32_35
  let v104 : BitVec 32 := Scalar.muli v103 c1_i32_35
  let v105 : BitVec 32 := Scalar.addi c0_i32_34 v104
  let c1_i32_36 : BitVec 32 := 1#32
  ⟨c0_i32_34, v105, c1_i32_36⟩
def k0_mult4 (k0_t1 : Fin k0_t1_loop.trips) (k0_t4 : Fin (k0_t4_loop k0_t1).trips) : BitVec 32 :=
  let c0_i32_34 : BitVec 32 := 0#32
  let c1_i32_36 : BitVec 32 := 1#32
  let arg8 : BitVec 32 := Scf.iv c0_i32_34 c1_i32_36 k0_t4
  let c256_i32_52 : BitVec 32 := 256#32
  let v149 : BitVec 32 := Scalar.muli arg8 c256_i32_52
  v149
def k0_off5 (k0_t1 : Fin k0_t1_loop.trips) (k0_t4 : Fin (k0_t4_loop k0_t1).trips) : Fin 3 → Nat :=
  let c0_53 : Index := 0#32
  let c0_i32_34 : BitVec 32 := 0#32
  let c1_i32_36 : BitVec 32 := 1#32
  let arg8 : BitVec 32 := Scf.iv c0_i32_34 c1_i32_36 k0_t4
  let c256_i32_52 : BitVec 32 := 256#32
  let v149 : BitVec 32 := Scalar.muli arg8 c256_i32_52
  let v150 : BitVec 32 := v149
  let v151 : Index := Scalar.indexCast v150
  let c128_54 : Index := 128#32
  ![0, v151.toNat, 128]
@[reducible] def k0_t5_loop (k0_t1 : Fin k0_t1_loop.trips) : Scf.Loop 32 :=
  let c0_i32_34 : BitVec 32 := 0#32
  let c0_i32_11 : BitVec 32 := 0#32
  let c1_i32_12 : BitVec 32 := 1#32
  let arg7 : BitVec 32 := Scf.iv c0_i32_11 c1_i32_12 k0_t1
  let v101 : BitVec 32 := Scalar.subi arg7 c0_i32_34
  let c1_i32_35 : BitVec 32 := 1#32
  let v103 : BitVec 32 := Scalar.divsi v101 c1_i32_35
  let v104 : BitVec 32 := Scalar.muli v103 c1_i32_35
  let v105 : BitVec 32 := Scalar.addi c0_i32_34 v104
  let v102 : BitVec 32 := Scalar.addi c0_i32_34 v101
  let c1_i32_37 : BitVec 32 := 1#32
  ⟨v105, v102, c1_i32_37⟩
def k0_mult5 (k0_t1 : Fin k0_t1_loop.trips) (k0_t5 : Fin (k0_t5_loop k0_t1).trips) : BitVec 32 :=
  let c0_i32_34 : BitVec 32 := 0#32
  let c0_i32_11 : BitVec 32 := 0#32
  let c1_i32_12 : BitVec 32 := 1#32
  let arg7 : BitVec 32 := Scf.iv c0_i32_11 c1_i32_12 k0_t1
  let v101 : BitVec 32 := Scalar.subi arg7 c0_i32_34
  let c1_i32_35 : BitVec 32 := 1#32
  let v103 : BitVec 32 := Scalar.divsi v101 c1_i32_35
  let v104 : BitVec 32 := Scalar.muli v103 c1_i32_35
  let v105 : BitVec 32 := Scalar.addi c0_i32_34 v104
  let c1_i32_37 : BitVec 32 := 1#32
  let arg8 : BitVec 32 := Scf.iv v105 c1_i32_37 k0_t5
  let c256_i32_52 : BitVec 32 := 256#32
  let v149 : BitVec 32 := Scalar.muli arg8 c256_i32_52
  v149
def k0_off6 (k0_t1 : Fin k0_t1_loop.trips) (k0_t5 : Fin (k0_t5_loop k0_t1).trips) : Fin 3 → Nat :=
  let c0_53 : Index := 0#32
  let c0_i32_34 : BitVec 32 := 0#32
  let c0_i32_11 : BitVec 32 := 0#32
  let c1_i32_12 : BitVec 32 := 1#32
  let arg7 : BitVec 32 := Scf.iv c0_i32_11 c1_i32_12 k0_t1
  let v101 : BitVec 32 := Scalar.subi arg7 c0_i32_34
  let c1_i32_35 : BitVec 32 := 1#32
  let v103 : BitVec 32 := Scalar.divsi v101 c1_i32_35
  let v104 : BitVec 32 := Scalar.muli v103 c1_i32_35
  let v105 : BitVec 32 := Scalar.addi c0_i32_34 v104
  let c1_i32_37 : BitVec 32 := 1#32
  let arg8 : BitVec 32 := Scf.iv v105 c1_i32_37 k0_t5
  let c256_i32_52 : BitVec 32 := 256#32
  let v149 : BitVec 32 := Scalar.muli arg8 c256_i32_52
  let v150 : BitVec 32 := v149
  let v151 : Index := Scalar.indexCast v150
  let c128_54 : Index := 128#32
  ![0, v151.toNat, 128]
def k0_off7 (k0_t1 : Fin k0_t1_loop.trips) : Fin 3 → Nat :=
  let c0_48 : Index := 0#32
  let c0_i32_11 : BitVec 32 := 0#32
  let c1_i32_12 : BitVec 32 := 1#32
  let arg7 : BitVec 32 := Scf.iv c0_i32_11 c1_i32_12 k0_t1
  let c256_i32 : BitVec 32 := 256#32
  let v52 : BitVec 32 := Scalar.muli arg7 c256_i32
  let v53 : BitVec 32 := v52
  let v138 : Index := Scalar.indexCast v53
  let c0_49 : Index := 0#32
  ![0, v138.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x4096x512 : Shape := ⟨3, ![16, 4096, 512]⟩
abbrev S16x8x4096x4096 : Shape := ⟨4, ![16, 8, 4096, 4096]⟩
abbrev S16x4096x4096x8 : Shape := ⟨4, ![16, 4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩

abbrev nBuf : Space → Nat
  | .hbm => 70
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S16x4096x512, .f32⟩
  | .hbm, ⟨6, _⟩ => ⟨S16x8x4096x4096, .f32⟩
  | .hbm, ⟨7, _⟩ => ⟨S16x4096x4096x8, .f32⟩
  | .hbm, ⟨8, _⟩ => ⟨S16x8x4096x4096, .f32⟩
  | .hbm, ⟨9, _⟩ => ⟨S16x8x4096x4096, .f32⟩
  | .hbm, ⟨10, _⟩ => ⟨S_, .f32⟩
  | .hbm, ⟨11, _⟩ => ⟨S16x8x4096x4096, .f32⟩
  | .hbm, ⟨12, _⟩ => ⟨S16x8x4096x4096, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S16x8x4096x4096, .i1⟩
  | .hbm, ⟨40, _⟩ => ⟨S16x8x4096x4096, .f32⟩
  | .hbm, ⟨41, _⟩ => ⟨S16x8x4096x4096, .f32⟩
  | .hbm, ⟨42, _⟩ => ⟨S_, .f32⟩
  | .hbm, ⟨43, _⟩ => ⟨S16x8x4096, .f32⟩
  | .hbm, ⟨44, _⟩ => ⟨S_, .f32⟩
  | .hbm, ⟨45, _⟩ => ⟨S16x8x4096, .f32⟩
  | .hbm, ⟨46, _⟩ => ⟨S16x8x4096, .f32⟩
  | .hbm, ⟨47, _⟩ => ⟨S16x8x4096x1, .f32⟩
  | .hbm, ⟨48, _⟩ => ⟨S16x8x4096x4096, .f32⟩
  | .hbm, ⟨49, _⟩ => ⟨S16x8x4096x4096, .f32⟩
  | .hbm, ⟨50, _⟩ => ⟨S16x8x4096x4096, .f32⟩
  | .hbm, ⟨51, _⟩ => ⟨S_, .f32⟩
  | .hbm, ⟨52, _⟩ => ⟨S16x8x4096, .f32⟩
  | .hbm, ⟨53, _⟩ => ⟨S16x8x4096x1, .f32⟩
  | .hbm, ⟨54, _⟩ => ⟨S16x8x4096x4096, .f32⟩
  | .hbm, ⟨55, _⟩ => ⟨S16x8x4096x4096, .f32⟩
  | .hbm, ⟨56, _⟩ => ⟨S16x8x64x4096, .f32⟩
  | .hbm, ⟨57, _⟩ => ⟨S16x4096x8x64, .f32⟩
  | .hbm, ⟨58, _⟩ => ⟨S16x4096x512, .f32⟩
  | .hbm, ⟨59, _⟩ => ⟨S16x4096x512, .f32⟩
  | .hbm, ⟨60, _⟩ => ⟨S16x4096x512, .f32⟩
  | .hbm, ⟨61, _⟩ => ⟨S_, .f32⟩
  | .hbm, ⟨62, _⟩ => ⟨S16x4096x512, .f32⟩
  | .hbm, ⟨63, _⟩ => ⟨S16x4096x512, .f32⟩
  | .hbm, ⟨64, _⟩ => ⟨S_, .f32⟩
  | .hbm, ⟨65, _⟩ => ⟨S16x4096x512, .f32⟩
  | .hbm, ⟨66, _⟩ => ⟨S16x4096x512, .f32⟩
  | .hbm, ⟨67, _⟩ => ⟨S16x4096x512, .f32⟩
  | .hbm, ⟨68, _⟩ => ⟨S16x4096x512, .f32⟩
  | .hbm, ⟨69, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩

abbrev nD : Nat := 1
abbrev τ : Topo := Topo.v7x

variable {F : FTy → Type} [FloatOps F]
-- ==== KernelOut.lean ====
abbrev S65536x512 : Shape := ⟨2, ![65536, 512]⟩
abbrev S65536x1024 : Shape := ⟨2, ![65536, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S65536x512 : Shape := ⟨2, ![65536, 512]⟩
abbrev S65536x1024 : Shape := ⟨2, ![65536, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x1024, .f32⟩
  | .hbm, ⟨3, _⟩ => ⟨S1024x1024, .f32⟩
  | .hbm, ⟨4, _⟩ => ⟨S65536x1024, .bf16⟩
  | .hbm, ⟨5, _⟩ => ⟨S65536x1024, .f32⟩
  | .hbm, ⟨6, _⟩ => ⟨S65536x1024, .f32⟩
  | .hbm, ⟨7, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelIn.lean ====
abbrev S16x4096x1024 : Shape := ⟨3, ![16, 4096, 1024]⟩
abbrev S4096x16 : Shape := ⟨2, ![4096, 16]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S64 : Shape := ⟨1, ![64]⟩
abbrev S32 : Shape := ⟨1, ![32]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x128 : Shape := ⟨2, ![1024, 128]⟩
abbrev S1024x640 : Shape := ⟨2, ![1024, 640]⟩
abbrev S1024x1536 : Shape := ⟨2, ![1024, 1536]⟩
abbrev S1024x2304 : Shape := ⟨2, ![1024, 2304]⟩
abbrev S384x8x96 : Shape := ⟨3, ![384, 8, 96]⟩
abbrev S384x8x32 : Shape := ⟨3, ![384, 8, 32]⟩
abbrev S384x8x64 : Shape := ⟨3, ![384, 8, 64]⟩
abbrev S384x8x16 : Shape := ⟨3, ![384, 8, 16]⟩
abbrev S384x8x128 : Shape := ⟨3, ![384, 8, 128]⟩
abbrev S384x1024 : Shape := ⟨2, ![384, 1024]⟩
abbrev S256x8x128 : Shape := ⟨3, ![256, 8, 128]⟩
abbrev S256x1024 : Shape := ⟨2, ![256, 1024]⟩
abbrev S1x1024 : Shape := ⟨2, ![1, 1024]⟩
abbrev S1x384 : Shape := ⟨2, ![1, 384]⟩
abbrev S1x256 : Shape := ⟨2, ![1, 256]⟩
abbrev S64x64 : Shape := ⟨2, ![64, 64]⟩
abbrev S32x64 : Shape := ⟨2, ![32, 64]⟩
abbrev S64x192 : Shape := ⟨2, ![64, 192]⟩
abbrev S64x256 : Shape := ⟨2, ![64, 256]⟩
abbrev S32x128 : Shape := ⟨2, ![32, 128]⟩
abbrev S32x256 : Shape := ⟨2, ![32, 256]⟩
abbrev S64x128 : Shape := ⟨2, ![64, 128]⟩
abbrev S32x192 : Shape := ⟨2, ![32, 192]⟩
abbrev S256x256 : Shape := ⟨2, ![256, 256]⟩
abbrev S128 : Shape := ⟨1, ![128]⟩
abbrev S1x128 : Shape := ⟨2, ![1, 128]⟩
abbrev S16 : Shape := ⟨1, ![16]⟩
abbrev S65536x1024 : Shape := ⟨2, ![65536, 1024]⟩
abbrev S4096x32 : Shape := ⟨2, ![4096, 32]⟩
abbrev S4096x64 : Shape := ⟨2, ![4096, 64]⟩
abbrev S4096x96 : Shape := ⟨2, ![4096, 96]⟩
abbrev S4096x128 : Shape := ⟨2, ![4096, 128]⟩
abbrev S65536x256 : Shape := ⟨2, ![65536, 256]⟩
abbrev S65536x32 : Shape := ⟨2, ![65536, 32]⟩
abbrev S65536x512 : Shape := ⟨2, ![65536, 512]⟩
abbrev S256x128 : Shape := ⟨2, ![256, 128]⟩
abbrev S256x32 : Shape := ⟨2, ![256, 32]⟩
abbrev S256x512 : Shape := ⟨2, ![256, 512]⟩
abbrev S256x1 : Shape := ⟨2, ![256, 1]⟩
abbrev S1024x384 : Shape := ⟨2, ![1024, 384]⟩
abbrev S256x384 : Shape := ⟨2, ![256, 384]⟩
abbrev S1024x256 : Shape := ⟨2, ![1024, 256]⟩
abbrev S1024x512 : Shape := ⟨2, ![1024, 512]⟩
abbrev S384x256 : Shape := ⟨2, ![384, 256]⟩

abbrev nBuf : Space → Nat
  | .hbm => 124
  | .vmem => 39
  | .smem => 0
  | _ => 0

abbrev bufTy : (tb : Table) → Fin (tcTables nBuf tb) → BufTy
  | .hbm, ⟨0, _⟩ => ⟨S16x4096x1024, .f32⟩
  | .hbm, ⟨1, _⟩ => ⟨S4096x16, .f32⟩
  | .hbm, ⟨2, _⟩ => ⟨S4096x16, .f32⟩
  | .hbm, ⟨3, _⟩ => ⟨S1024, .f32⟩
  | .hbm, ⟨4, _⟩ => ⟨S1024x2208, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x8x64, .f32⟩
  | .hbm, ⟨9, _⟩ => ⟨S256x8x64, .f32⟩
  | .hbm, ⟨10, _⟩ => ⟨S64, .f32⟩
  | .hbm, ⟨11, _⟩ => ⟨S32, .f32⟩
  | .hbm, ⟨12, _⟩ => ⟨S64, .f32⟩
  | .hbm, ⟨13, _⟩ => ⟨S32, .f32⟩
  | .hbm, ⟨14, _⟩ => ⟨S1024x32, .f32⟩
  | .hbm, ⟨15, _⟩ => ⟨S1024x16, .f32⟩
  | .hbm, ⟨16, _⟩ => ⟨S1024x16, .f32⟩
  | .hbm, ⟨17, _⟩ => ⟨S1024x32, .f32⟩
  | .hbm, ⟨18, _⟩ => ⟨S_, .f32⟩
  | .hbm, ⟨19, _⟩ => ⟨S1024x64, .f32⟩
  | .hbm, ⟨20, _⟩ => ⟨S1024x128, .f32⟩
  | .hbm, ⟨21, _⟩ => ⟨S1024x640, .f32⟩
  | .hbm, ⟨22, _⟩ => ⟨S1024x1536, .f32⟩
  | .hbm, ⟨23, _⟩ => ⟨S1024x2304, .f32⟩
  | .hbm, ⟨24, _⟩ => ⟨S1024x2304, .bf16⟩
  | .hbm, ⟨25, _⟩ => ⟨S384x8x96, .f32⟩
  | .hbm, ⟨26, _⟩ => ⟨S384x8x32, .f32⟩
  | .hbm, ⟨27, _⟩ => ⟨S384x8x64, .f32⟩
  | .hbm, ⟨28, _⟩ => ⟨S384x8x16, .f32⟩
  | .hbm, ⟨29, _⟩ => ⟨S384x8x16, .f32⟩
  | .hbm, ⟨30, _⟩ => ⟨S384x8x32, .f32⟩
  | .hbm, ⟨31, _⟩ => ⟨S384x8x128, .f32⟩
  | .hbm, ⟨32, _⟩ => ⟨S384x1024, .f32⟩
  | .hbm, ⟨33, _⟩ => ⟨S384x1024, .bf16⟩
  | .hbm, ⟨34, _⟩ => ⟨S_, .f32⟩
  | .hbm, ⟨35, _⟩ => ⟨S256x8x64, .f32⟩
  | .hbm, ⟨36, _⟩ => ⟨S256x8x128, .f32⟩
  | .hbm, ⟨37, _⟩ => ⟨S256x1024, .f32⟩
  | .hbm, ⟨38, _⟩ => ⟨S256x1024, .bf16⟩
  | .hbm, ⟨39, _⟩ => ⟨S256x8x128, .f32⟩
  | .hbm, ⟨40, _⟩ => ⟨S256x1024, .f32⟩
  | .hbm, ⟨41, _⟩ => ⟨S256x1024, .bf16⟩
  | .hbm, ⟨42, _⟩ => ⟨S1x1024, .f32⟩
  | .hbm, ⟨43, _⟩ => ⟨S1x384, .f32⟩
  | .hbm, ⟨44, _⟩ => ⟨S1x256, .f32⟩
  | .hbm, ⟨45, _⟩ => ⟨S_, .f32⟩
  | .hbm, ⟨46, _⟩ => ⟨S64x64, .f32⟩
  | .hbm, ⟨47, _⟩ => ⟨S_, .f32⟩
  | .hbm, ⟨48, _⟩ => ⟨S32x64, .f32⟩
  | .hbm, ⟨49, _⟩ => ⟨S_, .f32⟩
  | .hbm, ⟨50, _⟩ => ⟨S64x192, .f32⟩
  | .hbm, ⟨51, _⟩ => ⟨S64x256, .f32⟩
  | .hbm, ⟨52, _⟩ => ⟨S_, .f32⟩
  | .hbm, ⟨53, _⟩ => ⟨S32x64, .f32⟩
  | .hbm, ⟨54, _⟩ => ⟨S_, .f32⟩
  | .hbm, ⟨55, _⟩ => ⟨S32x128, .f32⟩
  | .hbm, ⟨56, _⟩ => ⟨S32x256, .f32⟩
  | .hbm, ⟨57, _⟩ => ⟨S_, .f32⟩
  | .hbm, ⟨58, _⟩ => ⟨S32x256, .f32⟩
  | .hbm, ⟨59, _⟩ => ⟨S_, .f32⟩
  | .hbm, ⟨60, _⟩ => ⟨S64x128, .f32⟩
  | .hbm, ⟨61, _⟩ => ⟨S_, .f32⟩
  | .hbm, ⟨62, _⟩ => ⟨S64x64, .f32⟩
  | .hbm, ⟨63, _⟩ => ⟨S64x256, .f32⟩
  | .hbm, ⟨64, _⟩ => ⟨S_, .f32⟩
  | .hbm, ⟨65, _⟩ => ⟨S32x192, .f32⟩
  | .hbm, ⟨66, _⟩ => ⟨S32x256, .f32⟩
  | .hbm, ⟨67, _⟩ => ⟨S_, .f32⟩
  | .hbm, ⟨68, _⟩ => ⟨S32x256, .f32⟩
  | .hbm, ⟨69, _⟩ => ⟨S256x256, .f32⟩
  | .hbm, ⟨70, _⟩ => ⟨S256x256, .bf16⟩
  | .hbm, ⟨71, _⟩ => ⟨S_, .f32⟩
  | .hbm, ⟨72, _⟩ => ⟨S32, .f32⟩
  | .hbm, ⟨73, _⟩ => ⟨S128, .f32⟩
  | .hbm, ⟨74, _⟩ => ⟨S1x128, .f32⟩
  | .hbm, ⟨75, _⟩ => ⟨S16, .f32⟩
  | .hbm, ⟨76, _⟩ => ⟨S16, .f32⟩
  | .hbm, ⟨77, _⟩ => ⟨S32, .f32⟩
  | .hbm, ⟨78, _⟩ => ⟨S_, .i32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S_, .i32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S16, .f32⟩
  | .hbm, ⟨87, _⟩ => ⟨S16, .f32⟩
  | .hbm, ⟨88, _⟩ => ⟨S32, .f32⟩
  | .hbm, ⟨89, _⟩ => ⟨S_, .i32⟩
  | .hbm, ⟨90, _⟩ => ⟨S_, .f32⟩
  | .hbm, ⟨91, _⟩ => ⟨S128, .f32⟩
  | .hbm, ⟨92, _⟩ => ⟨S1x128, .f32⟩
  | .hbm, ⟨93, _⟩ => ⟨S_, .i32⟩
  | .hbm, ⟨94, _⟩ => ⟨S_, .f32⟩
  | .hbm, ⟨95, _⟩ => ⟨S128, .f32⟩
  | .hbm, ⟨96, _⟩ => ⟨S1x128, .f32⟩
  | .hbm, ⟨97, _⟩ => ⟨S65536x1024, .f32⟩
  | .hbm, ⟨98, _⟩ => ⟨S4096x32, .f32⟩
  | .hbm, ⟨99, _⟩ => ⟨S4096x16, .f32⟩
  | .hbm, ⟨100, _⟩ => ⟨S4096x32, .f32⟩
  | .hbm, ⟨101, _⟩ => ⟨S_, .f32⟩
  | .hbm, ⟨102, _⟩ => ⟨S4096x64, .f32⟩
  | .hbm, ⟨103, _⟩ => ⟨S4096x96, .f32⟩
  | .hbm, ⟨104, _⟩ => ⟨S_, .i32⟩
  | .hbm, ⟨105, _⟩ => ⟨S_, .f32⟩
  | .hbm, ⟨106, _⟩ => ⟨S4096x128, .f32⟩
  | .hbm, ⟨107, _⟩ => ⟨S_, .i32⟩
  | .hbm, ⟨108, _⟩ => ⟨S_, .f32⟩
  | .hbm, ⟨109, _⟩ => ⟨S4096x128, .f32⟩
  | .hbm, ⟨110, _⟩ => ⟨S_, .i32⟩
  | .hbm, ⟨111, _⟩ => ⟨S_, .f32⟩
  | .hbm, ⟨112, _⟩ => ⟨S4096x128, .f32⟩
  | .hbm, ⟨113, _⟩ => ⟨S_, .i32⟩
  | .hbm, ⟨114, _⟩ => ⟨S_, .f32⟩
  | .hbm, ⟨115, _⟩ => ⟨S4096x128, .f32⟩
  | .hbm, ⟨116, _⟩ => ⟨S65536x256, .f32⟩
  | .hbm, ⟨117, _⟩ => ⟨S65536x32, .f32⟩
  | .hbm, ⟨118, _⟩ => ⟨S65536x1024, .bf16⟩
  | .hbm, ⟨119, _⟩ => ⟨S65536x1024, .bf16⟩
  | .hbm, ⟨120, _⟩ => ⟨S65536x1024, .bf16⟩
  | .hbm, ⟨121, _⟩ => ⟨S65536x512, .f32⟩
  | .hbm, ⟨122, _⟩ => ⟨S65536x512, .f32⟩
  | .hbm, ⟨123, _⟩ => ⟨S65536x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2304, .bf16⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S256x1024, .bf16⟩
  | .local _ .vmem, ⟨8, _⟩ => ⟨S256x1024, .bf16⟩
  | .local _ .vmem, ⟨9, _⟩ => ⟨S256x256, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S256x256, .f32⟩
  | .local _ .vmem, ⟨24, _⟩ => ⟨S256x256, .f32⟩
  | .local _ .vmem, ⟨25, _⟩ => ⟨S256x32, .f32⟩
  | .local _ .vmem, ⟨26, _⟩ => ⟨S256x32, .f32⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c : Ref sig .tc := ⟨.hbm, 78, rfl⟩
abbrev main_call0_v0 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_call1_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_call2_v0 : Ref sig .tc := ⟨.hbm, 90, rfl⟩
abbrev main_v58 : Ref sig .tc := ⟨.hbm, 91, rfl⟩
abbrev main_v59 : Ref sig .tc := ⟨.hbm, 92, rfl⟩
abbrev main_c_14 : Ref sig .tc := ⟨.hbm, 93, rfl⟩
abbrev main_call3_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_c_16 : Ref sig .tc := ⟨.hbm, 104, rfl⟩
abbrev main_call4_v0 : Ref sig .tc := ⟨.hbm, 105, rfl⟩
abbrev main_v68 : Ref sig .tc := ⟨.hbm, 106, rfl⟩
abbrev main_c_17 : Ref sig .tc := ⟨.hbm, 107, rfl⟩
abbrev main_call5_v0 : Ref sig .tc := ⟨.hbm, 108, rfl⟩
abbrev main_v69 : Ref sig .tc := ⟨.hbm, 109, rfl⟩
abbrev main_c_18 : Ref sig .tc := ⟨.hbm, 110, rfl⟩
abbrev main_call6_v0 : Ref sig .tc := ⟨.hbm, 111, rfl⟩
abbrev main_v70 : Ref sig .tc := ⟨.hbm, 112, rfl⟩
abbrev main_c_19 : Ref sig .tc := ⟨.hbm, 113, rfl⟩
abbrev main_call7_v0 : Ref sig .tc := ⟨.hbm, 114, rfl⟩
abbrev main_v71 : Ref sig .tc := ⟨.hbm, 115, rfl⟩
abbrev main_v72_0 : Ref sig .tc := ⟨.hbm, 116, rfl⟩
abbrev main_v72_1 : Ref sig .tc := ⟨.hbm, 117, rfl⟩
abbrev main_v72_2 : Ref sig .tc := ⟨.hbm, 118, rfl⟩
abbrev main_v72_3 : Ref sig .tc := ⟨.hbm, 119, rfl⟩
abbrev main_v72_4 : Ref sig .tc := ⟨.hbm, 120, rfl⟩
abbrev main_v72_5 : Ref sig .tc := ⟨.hbm, 121, rfl⟩
abbrev main_v72_6 : Ref sig .tc := ⟨.hbm, 122, rfl⟩
abbrev main_v72_7 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceInIdeal.lean ====
abbrev S16x4096x1024 : Shape := ⟨3, ![16, 4096, 1024]⟩
abbrev S4096x16 : Shape := ⟨2, ![4096, 16]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S64 : Shape := ⟨1, ![64]⟩
abbrev S32 : Shape := ⟨1, ![32]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2208 : Shape := ⟨3, ![16, 4096, 2208]⟩
abbrev S16x4096x384 : Shape := ⟨3, ![16, 4096, 384]⟩
abbrev S16x4096x256 : Shape := ⟨3, ![16, 4096, 256]⟩
abbrev S16x4096x32 : Shape := ⟨3, ![16, 4096, 32]⟩
abbrev S16x4096x512 : Shape := ⟨3, ![16, 4096, 512]⟩
abbrev S1x1x256 : Shape := ⟨3, ![1, 1, 256]⟩
abbrev S1x1x32 : Shape := ⟨3, ![1, 1, 32]⟩
abbrev S16x4096x1x32 : Shape := ⟨4, ![16, 4096, 1, 32]⟩
abbrev S4096x1x16 : Shape := ⟨3, ![4096, 1, 16]⟩
abbrev S16x4096x1x16 : Shape := ⟨4, ![16, 4096, 1, 16]⟩
abbrev S1x4096x1x16 : Shape := ⟨4, ![1, 4096, 1, 16]⟩
abbrev S1x1x384 : Shape := ⟨3, ![1, 1, 384]⟩
abbrev S16x4096x768 : Shape := ⟨3, ![16, 4096, 768]⟩
abbrev S16x4096x8x96 : Shape := ⟨4, ![16, 4096, 8, 96]⟩
abbrev S16x4096x8x64 : Shape := ⟨4, ![16, 4096, 8, 64]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x4096x8x32 : Shape := ⟨4, ![16, 4096, 8, 32]⟩
abbrev S1x1x1x32 : Shape := ⟨4, ![1, 1, 1, 32]⟩
abbrev S16x4096x8x16 : Shape := ⟨4, ![16, 4096, 8, 16]⟩
abbrev S16x4096x8x128 : Shape := ⟨4, ![16, 4096, 8, 128]⟩
abbrev S65536x256 : Shape := ⟨2, ![65536, 256]⟩
abbrev S65536x32 : Shape := ⟨2, ![65536, 32]⟩
abbrev S65536x1024 : Shape := ⟨2, ![65536, 1024]⟩
abbrev S65536x512 : Shape := ⟨2, ![65536, 512]⟩

abbrev nBuf : Space → Nat
  | .hbm => 207
  | .vmem => 0
  | .smem => 0
  | _ => 0

abbrev hbmTy0_0 (i : Nat) : BufTy := match i % 128 with
  | 0 => ⟨S16x4096x1024, .f32⟩
  | 1 => ⟨S4096x16, .f32⟩
  | 2 => ⟨S4096x16, .f32⟩
  | 3 => ⟨S1024, .f32⟩
  | 4 => ⟨S1024x2208, .f32⟩
  | 5 => ⟨S384, .f32⟩
  | 6 => ⟨S384x768, .f32⟩
  | 7 => ⟨S256, .f32⟩
  | 8 => ⟨S256x8x64, .f32⟩
  | 9 => ⟨S256x8x64, .f32⟩
  | 10 => ⟨S64, .f32⟩
  | 11 => ⟨S32, .f32⟩
  | 12 => ⟨S64, .f32⟩
  | 13 => ⟨S32, .f32⟩
  | 14 => ⟨S16x4096x1024, .f32⟩
  | 15 => ⟨S_, .f32⟩
  | 16 => ⟨S16x4096, .f32⟩
  | 17 => ⟨S16x4096x1, .f32⟩
  | 18 => ⟨S_, .f32⟩
  | 19 => ⟨S16x4096x1, .f32⟩
  | 20 => ⟨S16x4096x1, .f32⟩
  | 21 => ⟨S_, .f32⟩
  | 22 => ⟨S16x4096x1, .f32⟩
  | 23 => ⟨S16x4096x1, .f32⟩
  | 24 => ⟨S16x4096x1, .f32⟩
  | 25 => ⟨S16x4096x1024, .f32⟩
  | 26 => ⟨S16x4096x1024, .f32⟩
  | 27 => ⟨S1x1x1024, .f32⟩
  | 28 => ⟨S16x4096x1024, .f32⟩
  | 29 => ⟨S16x4096x1024, .f32⟩
  | 30 => ⟨S16x4096x2208, .f32⟩
  | 31 => ⟨S16x4096x384, .f32⟩
  | 32 => ⟨S16x4096x256, .f32⟩
  | 33 => ⟨S16x4096x32, .f32⟩
  | 34 => ⟨S16x4096x512, .f32⟩
  | 35 => ⟨S16x4096x512, .f32⟩
  | 36 => ⟨S16x4096x512, .f32⟩
  | 37 => ⟨S16x4096x256, .f32⟩
  | 38 => ⟨S_, .f32⟩
  | 39 => ⟨S16x4096, .f32⟩
  | 40 => ⟨S16x4096x1, .f32⟩
  | 41 => ⟨S_, .f32⟩
  | 42 => ⟨S16x4096x1, .f32⟩
  | 43 => ⟨S16x4096x1, .f32⟩
  | 44 => ⟨S_, .f32⟩
  | 45 => ⟨S16x4096x1, .f32⟩
  | 46 => ⟨S16x4096x1, .f32⟩
  | 47 => ⟨S16x4096x1, .f32⟩
  | 48 => ⟨S16x4096x256, .f32⟩
  | 49 => ⟨S16x4096x256, .f32⟩
  | 50 => ⟨S1x1x256, .f32⟩
  | 51 => ⟨S16x4096x256, .f32⟩
  | 52 => ⟨S16x4096x256, .f32⟩
  | 53 => ⟨S16x4096x32, .f32⟩
  | 54 => ⟨S_, .f32⟩
  | 55 => ⟨S16x4096, .f32⟩
  | 56 => ⟨S16x4096x1, .f32⟩
  | 57 => ⟨S_, .f32⟩
  | 58 => ⟨S16x4096x1, .f32⟩
  | 59 => ⟨S16x4096x1, .f32⟩
  | 60 => ⟨S_, .f32⟩
  | 61 => ⟨S16x4096x1, .f32⟩
  | 62 => ⟨S16x4096x1, .f32⟩
  | 63 => ⟨S16x4096x1, .f32⟩
  | 64 => ⟨S16x4096x32, .f32⟩
  | 65 => ⟨S16x4096x32, .f32⟩
  | 66 => ⟨S1x1x32, .f32⟩
  | 67 => ⟨S16x4096x32, .f32⟩
  | 68 => ⟨S16x4096x32, .f32⟩
  | 69 => ⟨S16x4096x1x32, .f32⟩
  | 70 => ⟨S4096x1x16, .f32⟩
  | 71 => ⟨S4096x1x16, .f32⟩
  | 72 => ⟨S16x4096x1x16, .f32⟩
  | 73 => ⟨S16x4096x1x16, .f32⟩
  | 74 => ⟨S1x4096x1x16, .f32⟩
  | 75 => ⟨S16x4096x1x16, .f32⟩
  | 76 => ⟨S16x4096x1x16, .f32⟩
  | 77 => ⟨S1x4096x1x16, .f32⟩
  | 78 => ⟨S16x4096x1x16, .f32⟩
  | 79 => ⟨S16x4096x1x16, .f32⟩
  | 80 => ⟨S16x4096x1x16, .f32⟩
  | 81 => ⟨S1x4096x1x16, .f32⟩
  | 82 => ⟨S16x4096x1x16, .f32⟩
  | 83 => ⟨S16x4096x1x16, .f32⟩
  | 84 => ⟨S1x4096x1x16, .f32⟩
  | 85 => ⟨S16x4096x1x16, .f32⟩
  | 86 => ⟨S16x4096x1x16, .f32⟩
  | 87 => ⟨S16x4096x1x16, .f32⟩
  | 88 => ⟨S16x4096x1x32, .f32⟩
  | 89 => ⟨S16x4096x32, .f32⟩
  | 90 => ⟨S16x4096x384, .f32⟩
  | 91 => ⟨S_, .f32⟩
  | 92 => ⟨S16x4096, .f32⟩
  | 93 => ⟨S16x4096x1, .f32⟩
  | 94 => ⟨S_, .f32⟩
  | 95 => ⟨S16x4096x1, .f32⟩
  | 96 => ⟨S16x4096x1, .f32⟩
  | 97 => ⟨S_, .f32⟩
  | 98 => ⟨S16x4096x1, .f32⟩
  | 99 => ⟨S16x4096x1, .f32⟩
  | 100 => ⟨S16x4096x1, .f32⟩
  | 101 => ⟨S16x4096x384, .f32⟩
  | 102 => ⟨S16x4096x384, .f32⟩
  | 103 => ⟨S1x1x384, .f32⟩
  | 104 => ⟨S16x4096x384, .f32⟩
  | 105 => ⟨S16x4096x384, .f32⟩
  | 106 => ⟨S16x4096x768, .f32⟩
  | 107 => ⟨S16x4096x8x96, .f32⟩
  | 108 => ⟨S16x4096x8x64, .f32⟩
  | 109 => ⟨S16x4096x8x64, .f32⟩
  | 110 => ⟨S_, .f32⟩
  | 111 => ⟨S16x4096x8, .f32⟩
  | 112 => ⟨S16x4096x8x1, .f32⟩
  | 113 => ⟨S_, .f32⟩
  | 114 => ⟨S16x4096x8x1, .f32⟩
  | 115 => ⟨S16x4096x8x1, .f32⟩
  | 116 => ⟨S_, .f32⟩
  | 117 => ⟨S16x4096x8x1, .f32⟩
  | 118 => ⟨S16x4096x8x1, .f32⟩
  | 119 => ⟨S16x4096x8x1, .f32⟩
  | 120 => ⟨S16x4096x8x64, .f32⟩
  | 121 => ⟨S16x4096x8x64, .f32⟩
  | 122 => ⟨S1x1x1x64, .f32⟩
  | 123 => ⟨S16x4096x8x64, .f32⟩
  | 124 => ⟨S16x4096x8x64, .f32⟩
  | 125 => ⟨S16x4096x8x32, .f32⟩
  | 126 => ⟨S16x4096x8x32, .f32⟩
  | 127 => ⟨S_, .f32⟩
  | _ => ⟨S16x4096x1024, .f32⟩

abbrev hbmTy0_1 (i : Nat) : BufTy := match i % 128 with
  | 0 => ⟨S16x4096x8, .f32⟩
  | 1 => ⟨S16x4096x8x1, .f32⟩
  | 2 => ⟨S_, .f32⟩
  | 3 => ⟨S16x4096x8x1, .f32⟩
  | 4 => ⟨S16x4096x8x1, .f32⟩
  | 5 => ⟨S_, .f32⟩
  | 6 => ⟨S16x4096x8x1, .f32⟩
  | 7 => ⟨S16x4096x8x1, .f32⟩
  | 8 => ⟨S16x4096x8x1, .f32⟩
  | 9 => ⟨S16x4096x8x32, .f32⟩
  | 10 => ⟨S16x4096x8x32, .f32⟩
  | 11 => ⟨S1x1x1x32, .f32⟩
  | 12 => ⟨S16x4096x8x32, .f32⟩
  | 13 => ⟨S16x4096x8x32, .f32⟩
  | 14 => ⟨S4096x1x16, .f32⟩
  | 15 => ⟨S4096x1x16, .f32⟩
  | 16 => ⟨S16x4096x8x16, .f32⟩
  | 17 => ⟨S16x4096x8x16, .f32⟩
  | 18 => ⟨S1x4096x1x16, .f32⟩
  | 19 => ⟨S16x4096x8x16, .f32⟩
  | 20 => ⟨S16x4096x8x16, .f32⟩
  | 21 => ⟨S1x4096x1x16, .f32⟩
  | 22 => ⟨S16x4096x8x16, .f32⟩
  | 23 => ⟨S16x4096x8x16, .f32⟩
  | 24 => ⟨S16x4096x8x16, .f32⟩
  | 25 => ⟨S1x4096x1x16, .f32⟩
  | 26 => ⟨S16x4096x8x16, .f32⟩
  | 27 => ⟨S16x4096x8x16, .f32⟩
  | 28 => ⟨S1x4096x1x16, .f32⟩
  | 29 => ⟨S16x4096x8x16, .f32⟩
  | 30 => ⟨S16x4096x8x16, .f32⟩
  | 31 => ⟨S16x4096x8x16, .f32⟩
  | 32 => ⟨S16x4096x8x32, .f32⟩
  | 33 => ⟨S16x4096x8x64, .f32⟩
  | 34 => ⟨S16x4096x8x64, .f32⟩
  | 35 => ⟨S_, .f32⟩
  | 36 => ⟨S16x4096x8, .f32⟩
  | 37 => ⟨S16x4096x8x1, .f32⟩
  | 38 => ⟨S_, .f32⟩
  | 39 => ⟨S16x4096x8x1, .f32⟩
  | 40 => ⟨S16x4096x8x1, .f32⟩
  | 41 => ⟨S_, .f32⟩
  | 42 => ⟨S16x4096x8x1, .f32⟩
  | 43 => ⟨S16x4096x8x1, .f32⟩
  | 44 => ⟨S16x4096x8x1, .f32⟩
  | 45 => ⟨S16x4096x8x64, .f32⟩
  | 46 => ⟨S16x4096x8x64, .f32⟩
  | 47 => ⟨S1x1x1x64, .f32⟩
  | 48 => ⟨S16x4096x8x64, .f32⟩
  | 49 => ⟨S16x4096x8x64, .f32⟩
  | 50 => ⟨S16x4096x8x64, .f32⟩
  | 51 => ⟨S16x4096x1x32, .f32⟩
  | 52 => ⟨S16x4096x8x32, .f32⟩
  | 53 => ⟨S_, .f32⟩
  | 54 => ⟨S16x4096x8x64, .f32⟩
  | 55 => ⟨S16x4096x8x64, .f32⟩
  | 56 => ⟨S_, .f32⟩
  | 57 => ⟨S16x4096x8x32, .f32⟩
  | 58 => ⟨S16x4096x8x32, .f32⟩
  | 59 => ⟨S_, .f32⟩
  | 60 => ⟨S16x4096x8x32, .f32⟩
  | 61 => ⟨S16x4096x8x128, .f32⟩
  | 62 => ⟨S_, .f32⟩
  | 63 => ⟨S16x4096x8x32, .f32⟩
  | 64 => ⟨S16x4096x8x128, .f32⟩
  | 65 => ⟨S_, .f32⟩
  | 66 => ⟨S16x4096x8x64, .f32⟩
  | 67 => ⟨S16x4096x8x128, .f32⟩
  | 68 => ⟨S65536x256, .f32⟩
  | 69 => ⟨S65536x32, .f32⟩
  | 70 => ⟨S65536x1024, .f32⟩
  | 71 => ⟨S65536x1024, .bf16⟩
  | 72 => ⟨S65536x1024, .f32⟩
  | 73 => ⟨S65536x1024, .bf16⟩
  | 74 => ⟨S65536x1024, .f32⟩
  | 75 => ⟨S65536x1024, .bf16⟩
  | 76 => ⟨S65536x512, .f32⟩
  | 77 => ⟨S65536x512, .f32⟩
  | 78 => ⟨S65536x512, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_v69 : Ref sig .tc := ⟨.hbm, 93, rfl⟩
abbrev main_cst_9 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_11 : Ref sig .tc := ⟨.hbm, 110, rfl⟩
abbrev main_v84 : Ref sig .tc := ⟨.hbm, 111, rfl⟩
abbrev main_v85 : Ref sig .tc := ⟨.hbm, 112, rfl⟩
abbrev main_cst_12 : Ref sig .tc := ⟨.hbm, 113, rfl⟩
abbrev main_v86 : Ref sig .tc := ⟨.hbm, 114, rfl⟩
abbrev main_v87 : Ref sig .tc := ⟨.hbm, 115, rfl⟩
abbrev main_cst_13 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_14 : Ref sig .tc := ⟨.hbm, 127, rfl⟩
abbrev main_v98 : Ref sig .tc := ⟨.hbm, 128, rfl⟩
abbrev main_v99 : Ref sig .tc := ⟨.hbm, 129, rfl⟩
abbrev main_cst_15 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_17 : Ref sig .tc := ⟨.hbm, 163, rfl⟩
abbrev main_v131 : Ref sig .tc := ⟨.hbm, 164, rfl⟩
abbrev main_v132 : Ref sig .tc := ⟨.hbm, 165, rfl⟩
abbrev main_cst_18 : Ref sig .tc := ⟨.hbm, 166, rfl⟩
abbrev main_v133 : Ref sig .tc := ⟨.hbm, 167, rfl⟩
abbrev main_v134 : Ref sig .tc := ⟨.hbm, 168, rfl⟩
abbrev main_cst_19 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_20 : Ref sig .tc := ⟨.hbm, 181, rfl⟩
abbrev main_v146 : Ref sig .tc := ⟨.hbm, 182, rfl⟩
abbrev main_v147 : Ref sig .tc := ⟨.hbm, 183, rfl⟩
abbrev main_cst_21 : Ref sig .tc := ⟨.hbm, 184, rfl⟩
abbrev main_v148 : Ref sig .tc := ⟨.hbm, 185, rfl⟩
abbrev main_v149 : Ref sig .tc := ⟨.hbm, 186, rfl⟩
abbrev main_cst_22 : Ref sig .tc := ⟨.hbm, 187, rfl⟩
abbrev main_v150 : Ref sig .tc := ⟨.hbm, 188, rfl⟩
abbrev main_v151 : Ref sig .tc := ⟨.hbm, 189, rfl⟩
abbrev main_cst_23 : Ref sig .tc := ⟨.hbm, 190, rfl⟩
abbrev main_v152 : Ref sig .tc := ⟨.hbm, 191, rfl⟩
abbrev main_v153 : Ref sig .tc := ⟨.hbm, 192, rfl⟩
abbrev main_cst_24 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩

abbrev nD : Nat := 1
abbrev τ : Topo := Topo.v7x

variable {F : FTy → Type} [FloatOps F]
-- ==== Proof.InFrameIdeal.lean ====
/-
  THE INPUT PROJECTIONS' KERNEL, on the ideal numbers: the arrays its region finds, each window's block at a point, and what each output's
  buffer holds after the body.  (The generated frame module of this program, without its cross-checks.)
-/
module

public import proofs.«01_k».proof.Proof.Gen.KernelInIdeal.Launch
public import proofs.«01_k».proof.Proof.Gen.KernelInIdeal.Skeleton
public import proofs.«01_k».proof.Proof.Gen.KernelInIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- rectangles with long axes recurse once per coordinate
set_option maxRecDepth 16384

noncomputable section

namespace Cert.KernelInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1560000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelInIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x2304 := Rect.unit (s := S1024x2304) ![0, 0] S1024x384.size inb_S1024x2304_S1024x384_0_0
abbrev r0_3 : Rect S1024x2304 := Rect.unit (s := S1024x2304) ![0, 384] S1024x256.size inb_S1024x2304_S1024x256_0_384
abbrev r0_4 : Rect S1024x2304 := Rect.unit (s := S1024x2304) ![0, 640] S1024x128.size inb_S1024x2304_S1024x128_0_640
abbrev r0_5 : Rect S1024x2304 := Rect.unit (s := S1024x2304) ![0, 768] S1024x512.size inb_S1024x2304_S1024x512_0_768
abbrev r0_6 : Rect S256x512 := Rect.unit (s := S256x512) ![0, 0] S256x512.size inb_S256x512_S256x512_0_0
abbrev r0_7 : Rect S1024x2304 := Rect.unit (s := S1024x2304) ![0, 1280] S1024x512.size inb_S1024x2304_S1024x512_0_1280
abbrev r0_8 : Rect S1024x2304 := Rect.unit (s := S1024x2304) ![0, 1792] S1024x512.size inb_S1024x2304_S1024x512_0_1792
abbrev r0_9 : Rect S1x256 := Rect.unit (s := S1x256) ![0, 0] S1x256.size inb_S1x256_S1x256_0_0
abbrev r0_10 : Rect S256x256 := Rect.unit (s := S256x256) ![0, 0] S256x256.size inb_S256x256_S256x256_0_0
abbrev r0_11 : Rect S256x128 := Rect.unit (s := S256x128) ![0, 0] S256x128.size inb_S256x128_S256x128_0_0
abbrev r0_12 : Rect S1x128 := Rect.unit (s := S1x128) ![0, 0] S1x128.size inb_S1x128_S1x128_0_0
abbrev r0_13 : Rect S256x32 := Rect.unit (s := S256x32) ![0, 0] S256x32.size inb_S256x32_S256x32_0_0
abbrev r0_14 : Rect S1x384 := Rect.unit (s := S1x384) ![0, 0] S1x384.size inb_S1x384_S1x384_0_0
abbrev r0_15 : Rect S384x1024 := Rect.unit (s := S384x1024) ![0, 0] S384x256.size inb_S384x1024_S384x256_0_0
abbrev r0_16 : Rect S256x1024 := Rect.unit (s := S256x1024) ![0, 0] S256x256.size inb_S256x1024_S256x256_0_0
abbrev r0_17 : Rect S256x1024 := Rect.unit (s := S256x1024) ![0, 0] S256x128.size inb_S256x1024_S256x128_0_0
abbrev r0_18 : Rect S256x1024 := Rect.unit (s := S256x1024) ![0, 128] S256x128.size inb_S256x1024_S256x128_0_128
abbrev r0_19 : Rect S384x1024 := Rect.unit (s := S384x1024) ![0, 256] S384x256.size inb_S384x1024_S384x256_0_256
abbrev r0_20 : Rect S256x1024 := Rect.unit (s := S256x1024) ![0, 256] S256x256.size inb_S256x1024_S256x256_0_256
abbrev r0_21 : Rect S256x1024 := Rect.unit (s := S256x1024) ![0, 256] S256x128.size inb_S256x1024_S256x128_0_256
abbrev r0_22 : Rect S256x1024 := Rect.unit (s := S256x1024) ![0, 384] S256x128.size inb_S256x1024_S256x128_0_384
abbrev r0_23 : Rect S384x1024 := Rect.unit (s := S384x1024) ![0, 512] S384x256.size inb_S384x1024_S384x256_0_512
abbrev r0_24 : Rect S256x1024 := Rect.unit (s := S256x1024) ![0, 512] S256x256.size inb_S256x1024_S256x256_0_512
abbrev r0_25 : Rect S256x1024 := Rect.unit (s := S256x1024) ![0, 512] S256x128.size inb_S256x1024_S256x128_0_512
abbrev r0_26 : Rect S256x1024 := Rect.unit (s := S256x1024) ![0, 640] S256x128.size inb_S256x1024_S256x128_0_640
abbrev r0_27 : Rect S384x1024 := Rect.unit (s := S384x1024) ![0, 768] S384x256.size inb_S384x1024_S384x256_0_768
abbrev r0_28 : Rect S256x1024 := Rect.unit (s := S256x1024) ![0, 768] S256x256.size inb_S256x1024_S256x256_0_768
abbrev r0_29 : Rect S256x1024 := Rect.unit (s := S256x1024) ![0, 768] S256x128.size inb_S256x1024_S256x128_0_768
abbrev r0_30 : Rect S256x1024 := Rect.unit (s := S256x1024) ![0, 896] S256x128.size inb_S256x1024_S256x128_0_896

/-! ## What the body leaves in each output window's buffer -/

/-! ### Values of the body that the stores' payloads, spelt out, would write more than once

    Each is a vector the body binds (often a part call's result), stated over the input windows' blocks and
    numbered on from the skeleton's payload functions (`k0_pay52` …, after `k0_pay51`), so that
    `out0_W` and the values after it name it instead of spelling it out; the comment after each is the printed
    function's name for the value (a count appended where that name is bound again). -/

def k0_pay52 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x256 .f32 :=
  k0_pay4 (View.ld x0 r0_0) (View.ld x1 r0_1) (View.ld x2 r0_3) -- `v22`
def k0_pay53 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x128 .f32 :=
  k0_pay5 (View.ld x0 r0_0) (View.ld x1 r0_1) (View.ld x2 r0_4) -- `v25`
def k0_pay54 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x256 .bf16 :=
  k0_pay10 (k0_pay52 x0 x1 x2 x3 x4 x5 x6 x7 x8 x9 x10 x11 x12 x13 x14 x15 x16 x17) (View.ld x5 r0_9) -- `v53`
def k0_pay55 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x1 .f32 :=
  k0_pay11 (k0_pay53 x0 x1 x2 x3 x4 x5 x6 x7 x8 x9 x10 x11 x12 x13 x14 x15 x16 x17) -- `v68`
def k0_pay56 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x128 .f32 :=
  k0_pay14 (k0_pay53 x0 x1 x2 x3 x4 x5 x6 x7 x8 x9 x10 x11 x12 x13 x14 x15 x16 x17) (k0_pay55 x0 x1 x2 x3 x4 x5 x6 x7 x8 x9 x10 x11 x12 x13 x14 x15 x16 x17) (View.ld x11 r0_11) (View.ld x15 r0_12) (View.ld x12 r0_11) (View.ld x16 r0_12) -- `v89`
def k0_pay57 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x384 .bf16 :=
  k0_pay15 (k0_pay3 (View.ld x0 r0_0) (View.ld x1 r0_1) (View.ld x2 r0_2)) (View.ld x3 r0_14) -- `v104`
def k0_pay58 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x128 .f32 :=
  k0_pay16 (View.ld x9 r0_11) -- `v106`
def k0_pay59 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S1x128 .f32 :=
  k0_pay17 (View.ld x13 r0_12) -- `v108`
def k0_pay60 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x128 .f32 :=
  k0_pay18 (k0_pay58 x0 x1 x2 x3 x4 x5 x6 x7 x8 x9 x10 x11 x12 x13 x14 x15 x16 x17) (k0_pay59 x0 x1 x2 x3 x4 x5 x6 x7 x8 x9 x10 x11 x12 x13 x14 x15 x16 x17) (Scalar.ofBits .f32 0x3DD105EC#32) -- `v112`
def k0_pay61 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x128 .f32 :=
  k0_pay19 (View.ld x10 r0_11) (View.ld x14 r0_12) -- `v120`
def k0_pay62 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x256 .f32 :=
  k0_pay21 (k0_pay54 x0 x1 x2 x3 x4 x5 x6 x7 x8 x9 x10 x11 x12 x13 x14 x15 x16 x17) (View.ld x6 r0_16) (View.ld x8 r0_10) -- `v144`
def k0_pay63 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x256 .f32 :=
  k0_pay29 (k0_pay57 x0 x1 x2 x3 x4 x5 x6 x7 x8 x9 x10 x11 x12 x13 x14 x15 x16 x17) (View.ld x4 r0_19) -- `v177`
def k0_pay64 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x256 .f32 :=
  k0_pay30 (k0_pay57 x0 x1 x2 x3 x4 x5 x6 x7 x8 x9 x10 x11 x12 x13 x14 x15 x16 x17) (View.ld x4 r0_19) (View.ld x8 r0_10) -- `v184`
def k0_pay65 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x256 .f32 :=
  k0_pay45 (k0_pay57 x0 x1 x2 x3 x4 x5 x6 x7 x8 x9 x10 x11 x12 x13 x14 x15 x16 x17) (View.ld x4 r0_27) (View.ld x8 r0_10) -- `v294`
def k0_pay66 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : FVec F S256x256 .f32 :=
  k0_pay46 (k0_pay54 x0 x1 x2 x3 x4 x5 x6 x7 x8 x9 x10 x11 x12 x13 x14 x15 x16 x17) (View.ld x6 r0_28) -- `v297`

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x256 .f32 :=
  View.canon [⟨r0_10, k0_pay9 (k0_pay52 x0 x1 x2 x3 x4 x5 x6 x7 x8 x9 x10 x11 x12 x13 x14 x15 x16 x17) (View.ld x5 r0_9)⟩]

/-- Its stores tile the buffer (checked by evaluation), so they cover it. -/
theorem cover0_18 (p0 : Vec F S256x256 .f32) (y : S256x256.Idx) :
    ∃ pc ∈ ([⟨r0_10, p0⟩] : List (View.Piece (Elt F) S256x256 .f32)), y ∈ pc.1.set :=
  View.cover_of_tiled [⟨r0_10, p0⟩] S256x256.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x32 .f32 :=
  View.canon [⟨r0_13, k0_pay13 (k0_pay53 x0 x1 x2 x3 x4 x5 x6 x7 x8 x9 x10 x11 x12 x13 x14 x15 x16 x17) (k0_pay55 x0 x1 x2 x3 x4 x5 x6 x7 x8 x9 x10 x11 x12 x13 x14 x15 x16 x17) (View.ld x11 r0_11) (View.ld x15 r0_12) (View.ld x12 r0_11) (View.ld x16 r0_12)⟩]

/-- Its stores tile the buffer (checked by evaluation), so they cover it. -/
theorem cover0_19 (p0 : Vec F S256x32 .f32) (y : S256x32.Idx) :
    ∃ pc ∈ ([⟨r0_13, p0⟩] : List (View.Piece (Elt F) S256x32 .f32)), y ∈ pc.1.set :=
  View.cover_of_tiled [⟨r0_13, p0⟩] S256x32.size (by rfl) y

/-- Window 20's staging buffer after the body, from the input windows' blocks: its 8 stores as pieces, LAST
    FIRST (Lib/Pipeline/FrameBody.lean `View.canon`; the payloads are the skeleton's and the values stated above). -/
def out0_20 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x1024 .bf16 :=
  View.canon [⟨r0_30, k0_pay50 (k0_pay60 x0 x1 x2 x3 x4 x5 x6 x7 x8 x9 x10 x11 x12 x13 x14 x15 x16 x17) (k0_pay61 x0 x1 x2 x3 x4 x5 x6 x7 x8 x9 x10 x11 x12 x13 x14 x15 x16 x17) (k0_pay65 x0 x1 x2 x3 x4 x5 x6 x7 x8 x9 x10 x11 x12 x13 x14 x15 x16 x17)⟩,
    ⟨r0_29, k0_pay48 (k0_pay60 x0 x1 x2 x3 x4 x5 x6 x7 x8 x9 x10 x11 x12 x13 x14 x15 x16 x17) (k0_pay61 x0 x1 x2 x3 x4 x5 x6 x7 x8 x9 x10 x11 x12 x13 x14 x15 x16 x17) (k0_pay65 x0 x1 x2 x3 x4 x5 x6 x7 x8 x9 x10 x11 x12 x13 x14 x15 x16 x17)⟩,
    ⟨r0_26, k0_pay43 (k0_pay60 x0 x1 x2 x3 x4 x5 x6 x7 x8 x9 x10 x11 x12 x13 x14 x15 x16 x17) (k0_pay61 x0 x1 x2 x3 x4 x5 x6 x7 x8 x9 x10 x11 x12 x13 x14 x15 x16 x17) (k0_pay38 (k0_pay57 x0 x1 x2 x3 x4 x5 x6 x7 x8 x9 x10 x11 x12 x13 x14 x15 x16 x17) (View.ld x4 r0_23) (View.ld x8 r0_10))⟩,
    ⟨r0_25, k0_pay40 (k0_pay57 x0 x1 x2 x3 x4 x5 x6 x7 x8 x9 x10 x11 x12 x13 x14 x15 x16 x17) (k0_pay60 x0 x1 x2 x3 x4 x5 x6 x7 x8 x9 x10 x11 x12 x13 x14 x15 x16 x17) (k0_pay61 x0 x1 x2 x3 x4 x5 x6 x7 x8 x9 x10 x11 x12 x13 x14 x15 x16 x17) (View.ld x4 r0_23) (View.ld x8 r0_10)⟩,
    ⟨r0_22, k0_pay35 (k0_pay60 x0 x1 x2 x3 x4 x5 x6 x7 x8 x9 x10 x11 x12 x13 x14 x15 x16 x17) (k0_pay61 x0 x1 x2 x3 x4 x5 x6 x7 x8 x9 x10 x11 x12 x13 x14 x15 x16 x17) (k0_pay63 x0 x1 x2 x3 x4 x5 x6 x7 x8 x9 x10 x11 x12 x13 x14 x15 x16 x17) (k0_pay64 x0 x1 x2 x3 x4 x5 x6 x7 x8 x9 x10 x11 x12 x13 x14 x15 x16 x17)⟩,
    ⟨r0_21, k0_pay33 (k0_pay60 x0 x1 x2 x3 x4 x5 x6 x7 x8 x9 x10 x11 x12 x13 x14 x15 x16 x17) (k0_pay61 x0 x1 x2 x3 x4 x5 x6 x7 x8 x9 x10 x11 x12 x13 x14 x15 x16 x17) (k0_pay63 x0 x1 x2 x3 x4 x5 x6 x7 x8 x9 x10 x11 x12 x13 x14 x15 x16 x17) (k0_pay64 x0 x1 x2 x3 x4 x5 x6 x7 x8 x9 x10 x11 x12 x13 x14 x15 x16 x17)⟩,
    ⟨r0_18, k0_pay27 (k0_pay60 x0 x1 x2 x3 x4 x5 x6 x7 x8 x9 x10 x11 x12 x13 x14 x15 x16 x17) (k0_pay61 x0 x1 x2 x3 x4 x5 x6 x7 x8 x9 x10 x11 x12 x13 x14 x15 x16 x17) (k0_pay20 (k0_pay57 x0 x1 x2 x3 x4 x5 x6 x7 x8 x9 x10 x11 x12 x13 x14 x15 x16 x17) (View.ld x4 r0_15) (View.ld x8 r0_10))⟩,
    ⟨r0_17, k0_pay25 (k0_pay23 (k0_pay57 x0 x1 x2 x3 x4 x5 x6 x7 x8 x9 x10 x11 x12 x13 x14 x15 x16 x17) (k0_pay58 x0 x1 x2 x3 x4 x5 x6 x7 x8 x9 x10 x11 x12 x13 x14 x15 x16 x17) (k0_pay59 x0 x1 x2 x3 x4 x5 x6 x7 x8 x9 x10 x11 x12 x13 x14 x15 x16 x17) (Scalar.ofBits .f32 0x3DD105EC#32) (View.ld x4 r0_15) (View.ld x8 r0_10)) (k0_pay24 (k0_pay57 x0 x1 x2 x3 x4 x5 x6 x7 x8 x9 x10 x11 x12 x13 x14 x15 x16 x17) (View.ld x10 r0_11) (View.ld x14 r0_12) (View.ld x4 r0_15) (View.ld x8 r0_10))⟩]

/-- Its stores tile the buffer (checked by evaluation), so they cover it. -/
theorem cover0_20 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_30, p0⟩, ⟨r0_29, p1⟩, ⟨r0_26, p2⟩, ⟨r0_25, p3⟩, ⟨r0_22, p4⟩, ⟨r0_21, p5⟩, ⟨r0_18, p6⟩, ⟨r0_17, p7⟩] : List (View.Piece (Elt F) S256x1024 .bf16)), y ∈ pc.1.set :=
  View.cover_of_tiled [⟨r0_30, p0⟩, ⟨r0_29, p1⟩, ⟨r0_26, p2⟩, ⟨r0_25, p3⟩, ⟨r0_22, p4⟩, ⟨r0_21, p5⟩, ⟨r0_18, p6⟩, ⟨r0_17, p7⟩] S256x128.size (by rfl) y

/-- Window 21's staging buffer after the body, from the input windows' blocks: its 8 stores as pieces, LAST
    FIRST (Lib/Pipeline/FrameBody.lean `View.canon`; the payloads are the skeleton's and the values stated above). -/
def out0_21 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x1024 .bf16 :=
  View.canon [⟨r0_30, k0_pay51 (k0_pay56 x0 x1 x2 x3 x4 x5 x6 x7 x8 x9 x10 x11 x12 x13 x14 x15 x16 x17) (k0_pay66 x0 x1 x2 x3 x4 x5 x6 x7 x8 x9 x10 x11 x12 x13 x14 x15 x16 x17) (View.ld x8 r0_10) (View.ld x17 r0_12)⟩,
    ⟨r0_29, k0_pay49 (k0_pay56 x0 x1 x2 x3 x4 x5 x6 x7 x8 x9 x10 x11 x12 x13 x14 x15 x16 x17) (k0_pay66 x0 x1 x2 x3 x4 x5 x6 x7 x8 x9 x10 x11 x12 x13 x14 x15 x16 x17) (View.ld x8 r0_10) (View.ld x17 r0_12)⟩,
    ⟨r0_26, k0_pay44 (k0_pay56 x0 x1 x2 x3 x4 x5 x6 x7 x8 x9 x10 x11 x12 x13 x14 x15 x16 x17) (k0_pay39 (k0_pay54 x0 x1 x2 x3 x4 x5 x6 x7 x8 x9 x10 x11 x12 x13 x14 x15 x16 x17) (View.ld x6 r0_24) (View.ld x8 r0_10)) (View.ld x17 r0_12)⟩,
    ⟨r0_25, k0_pay42 (k0_pay56 x0 x1 x2 x3 x4 x5 x6 x7 x8 x9 x10 x11 x12 x13 x14 x15 x16 x17) (k0_pay41 (k0_pay54 x0 x1 x2 x3 x4 x5 x6 x7 x8 x9 x10 x11 x12 x13 x14 x15 x16 x17) (View.ld x6 r0_24) (View.ld x8 r0_10)) (View.ld x17 r0_12)⟩,
    ⟨r0_22, k0_pay37 (k0_pay56 x0 x1 x2 x3 x4 x5 x6 x7 x8 x9 x10 x11 x12 x13 x14 x15 x16 x17) (k0_pay36 (k0_pay54 x0 x1 x2 x3 x4 x5 x6 x7 x8 x9 x10 x11 x12 x13 x14 x15 x16 x17) (View.ld x6 r0_20) (View.ld x8 r0_10)) (View.ld x17 r0_12)⟩,
    ⟨r0_21, k0_pay34 (k0_pay54 x0 x1 x2 x3 x4 x5 x6 x7 x8 x9 x10 x11 x12 x13 x14 x15 x16 x17) (k0_pay56 x0 x1 x2 x3 x4 x5 x6 x7 x8 x9 x10 x11 x12 x13 x14 x15 x16 x17) (View.ld x6 r0_20) (View.ld x8 r0_10) (View.ld x17 r0_12)⟩,
    ⟨r0_18, k0_pay28 (k0_pay56 x0 x1 x2 x3 x4 x5 x6 x7 x8 x9 x10 x11 x12 x13 x14 x15 x16 x17) (k0_pay62 x0 x1 x2 x3 x4 x5 x6 x7 x8 x9 x10 x11 x12 x13 x14 x15 x16 x17) (View.ld x17 r0_12)⟩,
    ⟨r0_17, k0_pay26 (k0_pay56 x0 x1 x2 x3 x4 x5 x6 x7 x8 x9 x10 x11 x12 x13 x14 x15 x16 x17) (k0_pay62 x0 x1 x2 x3 x4 x5 x6 x7 x8 x9 x10 x11 x12 x13 x14 x15 x16 x17) (View.ld x17 r0_12)⟩]

/-- Its stores tile the buffer (checked by evaluation), so they cover it. -/
theorem cover0_21 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_30, p0⟩, ⟨r0_29, p1⟩, ⟨r0_26, p2⟩, ⟨r0_25, p3⟩, ⟨r0_22, p4⟩, ⟨r0_21, p5⟩, ⟨r0_18, p6⟩, ⟨r0_17, p7⟩] : List (View.Piece (Elt F) S256x1024 .bf16)), y ∈ pc.1.set :=
  View.cover_of_tiled [⟨r0_30, p0⟩, ⟨r0_29, p1⟩, ⟨r0_26, p2⟩, ⟨r0_25, p3⟩, ⟨r0_22, p4⟩, ⟨r0_21, p5⟩, ⟨r0_18, p6⟩, ⟨r0_17, p7⟩] S256x128.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x1024 .bf16 :=
  View.canon [⟨r0_0, k0_pay1 (k0_pay54 x0 x1 x2 x3 x4 x5 x6 x7 x8 x9 x10 x11 x12 x13 x14 x15 x16 x17) (View.ld x7 r0_0)⟩]

/-- Its stores tile the buffer (checked by evaluation), so they cover it. -/
theorem cover0_22 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x512 .f32 :=
  View.canon [⟨r0_6, k0_pay6 (View.ld x0 r0_0) (View.ld x1 r0_1) (View.ld x2 r0_5)⟩]

/-- Its stores tile the buffer (checked by evaluation), so they cover it. -/
theorem cover0_23 (p0 : Vec F S256x512 .f32) (y : S256x512.Idx) :
    ∃ pc ∈ ([⟨r0_6, p0⟩] : List (View.Piece (Elt F) S256x512 .f32)), y ∈ pc.1.set :=
  View.cover_of_tiled [⟨r0_6, p0⟩] S256x512.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x512 .f32 :=
  View.canon [⟨r0_6, k0_pay7 (View.ld x0 r0_0) (View.ld x1 r0_1) (View.ld x2 r0_7)⟩]

/-- Its stores tile the buffer (checked by evaluation), so they cover it. -/
theorem cover0_24 (p0 : Vec F S256x512 .f32) (y : S256x512.Idx) :
    ∃ pc ∈ ([⟨r0_6, p0⟩] : List (View.Piece (Elt F) S256x512 .f32)), y ∈ pc.1.set :=
  View.cover_of_tiled [⟨r0_6, p0⟩] S256x512.size (by rfl) y

/-- Window 25's staging buffer after the body, from the input windows' blocks: its 1 store as pieces, LAST
    FIRST (Lib/Pipeline/FrameBody.lean `View.canon`; the payloads are the skeleton's and the values stated above). -/
def out0_25 (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) : Vec F S256x512 .f32 :=
  View.canon [⟨r0_6, k0_pay8 (k0_pay2 (View.ld x0 r0_0) (View.ld x1 r0_1)) (View.ld x2 r0_8)⟩]

/-- Its stores tile the buffer (checked by evaluation), so they cover it. -/
theorem cover0_25 (p0 : Vec F S256x512 .f32) (y : S256x512.Idx) :
    ∃ pc ∈ ([⟨r0_6, p0⟩] : List (View.Piece (Elt F) S256x512 .f32)), y ∈ pc.1.set :=
  View.cover_of_tiled [⟨r0_6, p0⟩] S256x512.size (by rfl) y

/-! ## The body's triple -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

end Cert.KernelInIdeal.Gen

end
-- ==== Proof.InRunIdeal.lean ====
/-
  THE INPUT PROJECTIONS' KERNEL, on the ideal numbers RUNS: the body's triple, the obligation at every point, the launch and the frame.
  (The generated frame module of this program, its two longest steps given more room.)
-/
module

public import proofs.«01_k».proof.Proof.Gen.KernelInIdeal.Launch
public import proofs.«01_k».proof.Proof.Gen.KernelInIdeal.Skeleton
public import proofs.«01_k».proof.Proof.Gen.KernelInIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

public import proofs.«01_k».proof.Proof.InFrameIdeal

@[expose] public section

-- rectangles with long axes recurse once per coordinate
set_option maxRecDepth 16384

noncomputable section

namespace Cert.KernelInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x2304 .bf16) (harg3 : arg3.IsWhole) (arg4 : Memref sig .tc .vmem S1x384 .f32) (harg4 : arg4.IsWhole) (arg5 : Memref sig .tc .vmem S384x1024 .bf16) (harg5 : arg5.IsWhole) (arg6 : Memref sig .tc .vmem S1x256 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x256 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S256x256 .f32) (harg19 : arg19.IsWhole) (arg20 : Memref sig .tc .vmem S256x32 .f32) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole)
    (x0 : Vec F S256x1024 .f32) (x1 : Vec F S1x1024 .f32) (x2 : Vec F S1024x2304 .bf16) (x3 : Vec F S1x384 .f32) (x4 : Vec F S384x1024 .bf16) (x5 : Vec F S1x256 .f32) (x6 : Vec F S256x1024 .bf16) (x7 : Vec F S256x1024 .bf16) (x8 : Vec F S256x256 .bf16) (x9 : Vec F S256x128 .f32) (x10 : Vec F S256x128 .f32) (x11 : Vec F S256x128 .f32) (x12 : Vec F S256x128 .f32) (x13 : Vec F S1x128 .f32) (x14 : Vec F S1x128 .f32) (x15 : Vec F S1x128 .f32) (x16 : Vec F S1x128 .f32) (x17 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 x0 x1 x2 x3 x4 x5 x6 x7 x8 x9 x10 x11 x12 x13 x14 x15 x16 x17) ∗ owns (c : Thread nD τ) arg20 fullShare (out0_19 x0 x1 x2 x3 x4 x5 x6 x7 x8 x9 x10 x11 x12 x13 x14 x15 x16 x17) ∗ owns (c : Thread nD τ) arg21 fullShare (out0_20 x0 x1 x2 x3 x4 x5 x6 x7 x8 x9 x10 x11 x12 x13 x14 x15 x16 x17) ∗ owns (c : Thread nD τ) arg22 fullShare (out0_21 x0 x1 x2 x3 x4 x5 x6 x7 x8 x9 x10 x11 x12 x13 x14 x15 x16 x17) ∗ owns (c : Thread nD τ) arg23 fullShare (out0_22 x0 x1 x2 x3 x4 x5 x6 x7 x8 x9 x10 x11 x12 x13 x14 x15 x16 x17) ∗ owns (c : Thread nD τ) arg24 fullShare (out0_23 x0 x1 x2 x3 x4 x5 x6 x7 x8 x9 x10 x11 x12 x13 x14 x15 x16 x17) ∗ owns (c : Thread nD τ) arg25 fullShare (out0_24 x0 x1 x2 x3 x4 x5 x6 x7 x8 x9 x10 x11 x12 x13 x14 x15 x16 x17) ∗ owns (c : Thread nD τ) arg26 fullShare (out0_25 x0 x1 x2 x3 x4 x5 x6 x7 x8 x9 x10 x11 x12 x13 x14 x15 x16 x17)) -∗ K ⟨⟩))
      ⊢ wp frame (wpE (defs₀ (F := F)) Variants.none c none) E (cc0_ab_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_ab_in_eq_skeleton]; unfold cc0_ab_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

/-! ## The pipeline's proof data -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_KernelInIdeal`'s statement (Defs.lean) at any `F` — Proof.lean cites it at `Bits`:
    `theorem Cert.Proof.claim : Cert.Claim := ⟨Cert.KernelInIdeal.Gen.facts, fun m ρ _ => Cert.KernelInIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelInIdeal.Gen

end
-- ==== Proof.AttnRunIdeal.lean ====
/-
  THE ATTENTION KERNEL'S RUN (KernelIdeal): the loop over the query tiles, the body's triple, the launch.

  The body goes over its sixteen query tiles in a counted loop; each trip runs two key loops (one per head of the
  pair, the generated `Gen.loopInv_k0_t2` … `_t5`) and stores one tile of the result.  A trip is run once at a
  symbolic tile (`trip`), what it stores is a function of the blocks (`tile`), the result block after the loop is the
  canon of the sixteen tiles (`block`), and the launch follows from the body's triple by the pipeline library.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
abbrev MQ := Memref sig .tc .vmem S1x4096x256 .bf16
abbrev MG := Memref sig .tc .vmem S1x4096x128 .f32
abbrev MO := Memref sig .tc .vmem S1x4096x128 .bf16

/-! ## One query tile -/

/-- The rows of the result block that query tile `k` is. -/
abbrev rows (k : Fin k0_t1_loop.trips) : Rect S1x4096x128 :=
  Rect.unit (s := S1x4096x128) (k0_off7 k) S1x256x128.size (k0_off7_inb k)

/-- What a trip holds: the queries, keys, values and gate it reads, the result block it stores a tile of. -/
abbrev Held (c : Dev nD) (q k v : MQ) (g : MG) (o : MO) (fq : BufTy.Contents (Elt F) q.view.ty)
    (fk : BufTy.Contents (Elt F) k.view.ty) (fv : BufTy.Contents (Elt F) v.view.ty)
    (fg : BufTy.Contents (Elt F) g.view.ty) (fo : BufTy.Contents (Elt F) o.view.ty) : sProp 𝕄 :=
  iprop((q.view.loc (c : Thread nD τ) ↦[q.view.set]{fullShare} fq) ∗ (k.view.loc (c : Thread nD τ) ↦[k.view.set]{fullShare} fk)
    ∗ (v.view.loc (c : Thread nD τ) ↦[v.view.set]{fullShare} fv) ∗ (g.view.loc (c : Thread nD τ) ↦[g.view.set]{fullShare} fg)
    ∗ (o.view.loc (c : Thread nD τ) ↦[o.view.set]{fullShare} fo))

/-- One trip at a symbolic query tile: it stores one tile, which the run finds, and leaves all else. -/
@[irreducible] def trip (c : Dev nD) (i : grid0.Coords) (q : MQ) (hq : q.IsWhole) (k : MQ) (hk : k.IsWhole) (v : MQ) (hv : v.IsWhole)
    (g : MG) (hg : g.IsWhole) (o : MO) (ho : o.IsWhole) (v24 v27 : IVec S256x256 32) (v41 : IVec S256x256 1) (v43 v44 : IVec S256x256 32)
    (fq : BufTy.Contents (Elt F) q.view.ty) (fk : BufTy.Contents (Elt F) k.view.ty) (fv : BufTy.Contents (Elt F) v.view.ty)
    (fg : BufTy.Contents (Elt F) g.view.ty) (n : Fin k0_t1_loop.trips) :
    { p : FVec F S1x256x128 .bf16 // ∀ (E : Set ℕ) (fo : BufTy.Contents (Elt F) o.view.ty),
      Held (F := F) c q k v g o fq fk fv fg fo
      ⊢ wp frame (wpE (defs₀ (F := F)) Variants.none (c : Thread nD τ) none) E
          (k0_t1_body (F := F) i q hq k hk v hv g hg o ho v24 v27 v41 v43 v44 n PUnit.unit)
          (fun _ => Held (F := F) c q k v g o fq fk fv fg (o.view.writes (Elt F) fo [⟨rows n, p⟩])) } := by
  refine ⟨?_, fun E fo => ?run⟩
  case run =>
    unfold k0_t1_body
    iintro ⟨Hq, Hk, Hv, Hg, Ho⟩
    sl_exec_parts
    sl_step
    sl_close

section Loop

variable (c : Dev nD) (i : grid0.Coords) (q : MQ) (hq : q.IsWhole) (k : MQ) (hk : k.IsWhole) (v : MQ) (hv : v.IsWhole)
    (g : MG) (hg : g.IsWhole) (o : MO) (ho : o.IsWhole) (v24 v27 : IVec S256x256 32) (v41 : IVec S256x256 1) (v43 v44 : IVec S256x256 32)
    (fq : BufTy.Contents (Elt F) q.view.ty) (fk : BufTy.Contents (Elt F) k.view.ty) (fv : BufTy.Contents (Elt F) v.view.ty)
    (fg : BufTy.Contents (Elt F) g.view.ty)

/-- The tile that trip `n` stores. -/
abbrev tile (n : Fin k0_t1_loop.trips) : FVec F S1x256x128 .bf16 :=
  (trip (F := F) c i q hq k hk v hv g hg o ho v24 v27 v41 v43 v44 fq fk fv fg n).1

/-- The tiles stored before trip `n`, last first. -/
def tiles : ℕ → List (View.Piece (Elt F) S1x4096x128 .bf16)
  | 0 => []
  | n + 1 => if h : n < k0_t1_loop.trips then
      ⟨rows ⟨n, h⟩, tile (F := F) c i q hq k hk v hv g hg o ho v24 v27 v41 v43 v44 fq fk fv fg ⟨n, h⟩⟩ :: tiles n
    else tiles n

theorem tiles_succ (n : Fin k0_t1_loop.trips) :
    tiles (F := F) c i q hq k hk v hv g hg o ho v24 v27 v41 v43 v44 fq fk fv fg (n.val + 1)
      = ⟨rows n, tile (F := F) c i q hq k hk v hv g hg o ho v24 v27 v41 v43 v44 fq fk fv fg n⟩
        :: tiles (F := F) c i q hq k hk v hv g hg o ho v24 v27 v41 v43 v44 fq fk fv fg n.val := by
  rw [tiles.eq_2]; exact dif_pos n.isLt

/-- Every stored piece is some trip's tile at that trip's rows. -/
theorem exists_of_mem_tiles {n : ℕ} {p : View.Piece (Elt F) S1x4096x128 .bf16}
    (h : p ∈ tiles (F := F) c i q hq k hk v hv g hg o ho v24 v27 v41 v43 v44 fq fk fv fg n) :
    ∃ a : Fin k0_t1_loop.trips, p = ⟨rows a, tile (F := F) c i q hq k hk v hv g hg o ho v24 v27 v41 v43 v44 fq fk fv fg a⟩ := by
  induction n with
  | zero => exact absurd h List.not_mem_nil
  | succ n ih =>
    rw [tiles.eq_2] at h
    split at h
    next hn =>
      rcases List.mem_cons.mp h with h | h
      · exact ⟨⟨n, hn⟩, h⟩
      · exact ih h
    next => exact ih h

/-- Each trip's tile is among the pieces once the trip is done. -/
theorem mem_tiles (a : Fin k0_t1_loop.trips) {n : ℕ} (h : a.val < n) :
    (⟨rows a, tile (F := F) c i q hq k hk v hv g hg o ho v24 v27 v41 v43 v44 fq fk fv fg a⟩ : View.Piece (Elt F) S1x4096x128 .bf16)
      ∈ tiles (F := F) c i q hq k hk v hv g hg o ho v24 v27 v41 v43 v44 fq fk fv fg n := by
  induction n with
  | zero => exact absurd h (Nat.not_lt_zero _)
  | succ n ih =>
    rw [tiles.eq_2]
    by_cases e : a.val = n
    · subst e; rw [dif_pos a.isLt]; exact List.mem_cons_self
    · have := ih (by omega)
      split
      · exact List.mem_cons_of_mem _ this
      · exact this

/-- The result block's contents are followed by what the trips stored. -/
abbrev heldAt (fo : BufTy.Contents (Elt F) o.view.ty) (n : ℕ) (_u : PUnit) : sProp 𝕄 :=
  iprop((q.view.loc (c : Thread nD τ) ↦[q.view.set]{fullShare} fq) ∗ (k.view.loc (c : Thread nD τ) ↦[k.view.set]{fullShare} fk)
    ∗ (v.view.loc (c : Thread nD τ) ↦[v.view.set]{fullShare} fv) ∗ (g.view.loc (c : Thread nD τ) ↦[g.view.set]{fullShare} fg)
    ∗ (∃ f, (o.view.loc (c : Thread nD τ) ↦[o.view.set]{fullShare} f)
        ∗ ⌜f = o.view.writes (Elt F) fo (tiles (F := F) c i q hq k hk v hv g hg o ho v24 v27 v41 v43 v44 fq fk fv fg n)⌝))

set_option warn.classDefReducibility false in
/-- The loop over the query tiles, by what is stored before each. -/
@[sl_loop] def overTiles (fo : BufTy.Contents (Elt F) o.view.ty) (E : Set ℕ) :
    LoopInvTy_k0_t1 (F := F) Unit ℕ (UR sig nD τ) ℕ Variants.none c none E i q hq k hk v hv g hg o ho v24 v27 v41 v43 v44 where
  inv := heldAt (F := F) c i q hq k hk v hv g hg o ho v24 v27 v41 v43 v44 fq fk fv fg fo
  step n acc := by
    iintro ⟨Hq, Hk, Hv, Hg, ⟨%f, Ho, %hf⟩⟩
    subst hf
    iapply (wp_wand_r Idealize.ShloMosaic.frame (wpE (defs₀ (F := F)) Variants.none (c : Thread nD τ) none) E)
    isplitl [Hq Hk Hv Hg Ho]
    · iapply ((trip (F := F) c i q hq k hk v hv g hg o ho v24 v27 v41 v43 v44 fq fk fv fg n).2 E _)
      isplitl [Hq]; · iexact Hq
      isplitl [Hk]; · iexact Hk
      isplitl [Hv]; · iexact Hv
      isplitl [Hg]; · iexact Hg
      iexact Ho
    · iintro %yld ⟨Hq, Hk, Hv, Hg, Ho⟩
      isplitl [Hq]; · iexact Hq
      isplitl [Hk]; · iexact Hk
      isplitl [Hv]; · iexact Hv
      isplitl [Hg]; · iexact Hg
      iexists _; isplitl [Ho]; · iexact Ho
      ipureintro
      rw [tiles_succ, ← View.writes_append]; rfl

end Loop

/-! ## The body -/

/-- The sixteen tiles cover the result block. -/
theorem covers (y : S1x4096x128.Idx) : ∃ a : Fin k0_t1_loop.trips, y ∈ (rows a).set := by
  have hN : k0_t1_loop.trips = 16 := by decide +kernel
  have h0 : (y 0).val < 1 := (y 0).isLt
  have h1 : (y 1).val < 4096 := (y 1).isLt
  have h2 : (y 2).val < 128 := (y 2).isLt
  refine ⟨⟨(y 1).val / 256, by omega⟩, ?_⟩
  rw [Rect.mem_set_unit]
  intro a
  rw [k0_off7_eq]
  fin_cases a
  · show 0 ≤ (y 0).val ∧ (y 0).val < 0 + 1; omega
  · show 256 * ((y 1).val / 256) ≤ (y 1).val ∧ (y 1).val < 256 * ((y 1).val / 256) + 256; omega
  · show 0 ≤ (y 2).val ∧ (y 2).val < 0 + 128; omega

/-- What the body leaves in the result block, from what it reads. -/
def block (c : Dev nD) (i : grid0.Coords) (q : MQ) (hq : q.IsWhole) (k : MQ) (hk : k.IsWhole) (v : MQ) (hv : v.IsWhole)
    (g : MG) (hg : g.IsWhole) (o : MO) (ho : o.IsWhole) (xq xk xv : Vec F S1x4096x256 .bf16) (xg : Vec F S1x4096x128 .f32) :
    Vec F S1x4096x128 .bf16 :=
  View.canon (tiles (F := F) c i q hq k hk v hv g hg o ho k0_pay49 k0_pay50 k0_pay51 k0_pay52 k0_pay53
    (hq.unread xq) (hk.unread xk) (hv.unread xv) (hg.unread xg) k0_t1_loop.trips)

set_option maxHeartbeats 1000000 in
/-- The body's triple: what it reads is as it was, the result block is `block` of it. -/
theorem sound (c : Dev nD) (E : Set ℕ) (i : grid0.Coords) (q : MQ) (hq : q.IsWhole) (k : MQ) (hk : k.IsWhole) (v : MQ) (hv : v.IsWhole)
    (g : MG) (hg : g.IsWhole) (o : MO) (ho : o.IsWhole) (xq xk xv : Vec F S1x4096x256 .bf16) (xg : Vec F S1x4096x128 .f32)
    (K : PUnit → sProp 𝕄) :
    iprop(owns (c : Thread nD τ) q fullShare xq ∗ owns (c : Thread nD τ) k fullShare xk ∗ owns (c : Thread nD τ) v fullShare xv
        ∗ owns (c : Thread nD τ) g fullShare xg ∗ (∃ d, owns (c : Thread nD τ) o fullShare d)
        ∗ (iprop(owns (c : Thread nD τ) q fullShare xq ∗ owns (c : Thread nD τ) k fullShare xk ∗ owns (c : Thread nD τ) v fullShare xv
            ∗ owns (c : Thread nD τ) g fullShare xg
            ∗ owns (c : Thread nD τ) o fullShare (block (F := F) c i q hq k hk v hv g hg o ho xq xk xv xg)) -∗ K ⟨⟩))
      ⊢ wp frame (wpE (defs₀ (F := F)) Variants.none c none) E (cc0_attn_prompt i q hq k hk v hv g hg o ho) K := by
  simp only [cc0_attn_prompt_eq_skeleton]; unfold cc0_attn_prompt_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := hq.eq_unread hf0; obtain rfl := hk.eq_unread hf1; obtain rfl := hv.eq_unread hf2; obtain rfl := hg.eq_unread hf3
  sl_exec
  sl_step
  iapply Hk
  isplitl [H0]
  · iexists _; isplitr; · ipureintro; exact hq.read_unread _
    iexact H0
  isplitl [H1]
  · iexists _; isplitr; · ipureintro; exact hk.read_unread _
    iexact H1
  isplitl [H2]
  · iexists _; isplitr; · ipureintro; exact hv.read_unread _
    iexact H2
  isplitl [H3]
  · iexists _; isplitr; · ipureintro; exact hg.read_unread _
    iexact H3
  iexists _; isplitr
  swap; · iexact H4
  ipureintro
  refine View.read_writes_eq_canon _ _ _ fun y => ?_
  obtain ⟨a, ha⟩ := covers y
  exact ⟨_, mem_tiles (F := F) _ _ _ _ _ _ _ _ _ _ _ _ _ _ _ _ _ _ _ _ _ a a.isLt, ha⟩

/-! ## The launch -/

variable (m : (ℓ : Loc nD τ sig) → Buf (Elt F) ℓ) (ρ : Dev nD → PrngReg)

/-- What the body leaves in the result block at point `t`. -/
def blockAt (c : Dev nD) (t : Fin cfg0.N) : Vec F S1x4096x128 .bf16 :=
  block (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (iblk m c 0 t) (iblk m c 1 t) (iblk m c 2 t) (iblk m c 3 t)

/-- The pipeline's data: every input block as it is, the result's as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
  Φ _ := Pipeline.ΦA spec0 c
  q _ := fullShare
  owed _ := 0

theorem dats_A (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = blockAt m c t := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d

/-- The body at a point, what it is called with to what it returns. -/
theorem sound_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t))) := by
  unfold bodyAt0
  simp only [found0, found1, found2, found3]
  rw [show (dats m 0 c).Φ t.succ = (dats m 0 c).Φ t.castSucc from rfl,
    show (dats m 0 c).owesAt () t.succ = (dats m 0 c).owesAt () t.castSucc from rfl, left0, left1, left2, left3, left4]
  unfold blockAt
  iintro ⟨HΦ, Ho, ⟨%d0, H0⟩, ⟨%d1, H1⟩, ⟨%d2, H2⟩, ⟨%d3, H3⟩, ⟨%d4, H4⟩⟩
  iapply (sound (F := F) c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (sound_at m c t) rfl .rfl fun _ => .rfl

set_option backward.isDefEq.respectTransparency.types false in
set_option maxHeartbeats 800000 in
/-- The run: every array at what the pipeline's data say, every semaphore counter at zero. -/
theorem runs : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The run, the arrays only. -/
theorem arrays : θ_run defs (onTc (τ := τ) (main (F := F))) (s₀ m ρ) (Pipeline.FramePost cfgs (dats m) 0 (V m)) :=
  (θ_run defs _ _).mono (fun _ h => h.1) (runs m ρ)

/-- The arguments end unchanged and the machine is quiescent. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) (arrays m ρ)) ((θ_run defs _ _).mono (fun _ h => h.2) (runs m ρ))

end Cert.Proof.KernelIdeal

end
-- ==== Proof.Online.lean ====
/-
  SOFTMAX IN PASSES, over the extended reals.

  A row of scores is gone through block by block; after the keys of a set `K` the running maximum, the running sum of
  weights and the running weighted sum of values are those of `K` (`Upto`).  One block more is the flash-attention update
  (`Upto.step`), keys whose score is `⊥` (masked) change nothing (`Upto.extend`), and the quotient at the end is the
  weighted mean with the normalized weights (`Upto.quotient`).  Scores are real or `⊥`; values are any extended reals.
-/
module

public import Idealize.ShloMosaic.Lib.IdealHost

@[expose] public section

noncomputable section

namespace Cert.Proof.Online

open Idealize.ShloMosaic

/-- A weight between zero and a real number. -/
def Weight (x : EReal) : Prop := 0 ≤ x ∧ x ≠ ⊤

theorem Weight.zero : Weight 0 := ⟨le_rfl, EReal.zero_ne_top⟩

theorem Weight.coe {r : ℝ} (h : 0 ≤ r) : Weight (r : EReal) := ⟨EReal.coe_nonneg.mpr h, EReal.coe_ne_top r⟩

/-- A weight distributes over any finite sum of extended reals. -/
theorem Weight.mul_sum {ι : Type*} {c : EReal} (hc : Weight c) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top hc.1 hc.2, ih]

/-- A score below a bound that is not `⊤` has a weight. -/
theorem exp_weight {s m : EReal} (h : s ≤ m) (hm : m ≠ ⊤) : Weight (Ideal.exp (s - m)) := by
  induction s with
  | bot => rw [EReal.bot_sub]; exact Weight.zero
  | top => exact absurd (top_le_iff.mp h) hm
  | coe s =>
    induction m with
    | bot => exact absurd (le_bot_iff.mp h) (EReal.coe_ne_bot s)
    | top => exact absurd rfl hm
    | coe m => rw [← EReal.coe_sub, Ideal.exp_coe]; exact Weight.coe (Real.exp_nonneg _)

/-- Raising the bound from `m` to `m'` multiplies a weight by `exp (m - m')`. -/
theorem exp_chain {s m m' : EReal} (h : s ≤ m) (h' : m ≤ m') (hm : m' ≠ ⊤) :
    Ideal.exp (m - m') * Ideal.exp (s - m) = Ideal.exp (s - m') := by
  induction m' with
  | top => exact absurd rfl hm
  | bot =>
    obtain rfl := le_bot_iff.mp h'; obtain rfl := le_bot_iff.mp h
    rw [EReal.bot_sub, Ideal.exp_bot, zero_mul]
  | coe m' =>
    induction m with
    | top => exact absurd (top_le_iff.mp h') hm
    | bot => obtain rfl := le_bot_iff.mp h; simp only [EReal.bot_sub, Ideal.exp_bot, zero_mul]
    | coe m =>
      induction s with
      | top => exact absurd (top_le_iff.mp h) (EReal.coe_ne_top m)
      | bot => simp only [EReal.bot_sub, Ideal.exp_bot, mul_zero]
      | coe s =>
        simp only [← EReal.coe_sub, Ideal.exp_coe, ← EReal.coe_mul]
        rw [← Real.exp_add]; congr 2; ring

variable {ι : Type*} [DecidableEq ι]

/-- The running maximum, sum of weights and weighted sum of values after the keys of `K`. -/
structure Upto (K : Finset ι) (s v : ι → EReal) (m l a : EReal) : Prop where
  max : m = K.sup s
  sum : l = ∑ i ∈ K, Ideal.exp (s i - m)
  mean : a = ∑ i ∈ K, Ideal.exp (s i - m) * v i

theorem Upto.empty (s v : ι → EReal) : Upto ∅ s v ⊥ 0 0 := ⟨by simp, by simp, by simp⟩

theorem sup_ne_top {K : Finset ι} {s : ι → EReal} (hs : ∀ i, s i ≠ ⊤) : K.sup s ≠ ⊤ :=
  ((Finset.sup_lt_iff bot_lt_top).mpr fun i _ => lt_top_iff_ne_top.mpr (hs i)).ne

/-- One block of keys more. -/
theorem Upto.step {β : Type*} [Fintype β] {K : Finset ι} {s v : ι → EReal} {m l a : EReal} (h : Upto K s v m l a)
    (hs : ∀ i, s i ≠ ⊤) (e : β → ι) (he : Function.Injective e) (hd : ∀ j, e j ∉ K) (m' : EReal)
    (hm : m' = Max.max m (Finset.univ.sup fun j => s (e j))) :
    Upto (K ∪ Finset.univ.image e) s v m'
      (Ideal.exp (m - m') * l + ∑ j, Ideal.exp (s (e j) - m'))
      (Ideal.exp (m - m') * a + ∑ j, Ideal.exp (s (e j) - m') * v (e j)) := by
  have hdis : Disjoint K (Finset.univ.image e) := by
    rw [Finset.disjoint_right]; intro x hx
    obtain ⟨j, -, rfl⟩ := Finset.mem_image.mp hx
    exact hd j
  have hsup : m' = (K ∪ Finset.univ.image e).sup s := by
    rw [Finset.sup_union, Finset.sup_image, ← h.max, hm]; rfl
  have htop : m' ≠ ⊤ := hsup ▸ sup_ne_top hs
  have hmm : m ≤ m' := hm ▸ le_max_left _ _
  have hle : ∀ i ∈ K, s i ≤ m := fun i hi => h.max ▸ Finset.le_sup hi
  have hw : Weight (Ideal.exp (m - m')) := exp_weight hmm htop
  refine ⟨hsup, ?_, ?_⟩
  · rw [Finset.sum_union hdis, Finset.sum_image fun x _ y _ hxy => he hxy]
    conv_lhs => rw [h.sum, hw.mul_sum]
    rw [Finset.sum_congr rfl fun i hi => exp_chain (hle i hi) hmm htop]
  · rw [Finset.sum_union hdis, Finset.sum_image fun x _ y _ hxy => he hxy]
    conv_lhs => rw [h.mean, hw.mul_sum]
    rw [Finset.sum_congr rfl fun i hi => by rw [← mul_assoc, exp_chain (hle i hi) hmm htop]]

/-- Masked keys change nothing. -/
theorem Upto.extend {K K' : Finset ι} {s v : ι → EReal} {m l a : EReal} (h : Upto K s v m l a) (hK : K ⊆ K')
    (hs : ∀ i ∈ K', i ∉ K → s i = ⊥) : Upto K' s v m l a := by
  refine ⟨?_, ?_, ?_⟩
  · rw [h.max]
    refine le_antisymm (Finset.sup_mono hK) (Finset.sup_le fun i hi => ?_)
    by_cases hk : i ∈ K
    · exact Finset.le_sup hk
    · rw [hs i hi hk]; exact bot_le
  · rw [h.sum]
    exact Finset.sum_subset hK fun i hi hk => by rw [hs i hi hk, EReal.bot_sub, Ideal.exp_bot]
  · rw [h.mean]
    exact Finset.sum_subset hK fun i hi hk => by rw [hs i hi hk, EReal.bot_sub, Ideal.exp_bot, zero_mul]

/-- The quotient is the mean of the values by the normalized weights, once some key is not masked. -/
theorem Upto.quotient {K : Finset ι} {s v : ι → EReal} {m l a : EReal} (h : Upto K s v m l a)
    (hs : ∀ i, s i ≠ ⊤) {i₀ : ι} (hi : i₀ ∈ K) (h₀ : s i₀ ≠ ⊥) :
    Ideal.div a l = ∑ i ∈ K, v i * Ideal.div (Ideal.exp (s i - m)) l := by
  have htop : m ≠ ⊤ := h.max ▸ sup_ne_top hs
  have hle : ∀ i ∈ K, s i ≤ m := fun i hi => h.max ▸ Finset.le_sup hi
  have hpos : 0 < Ideal.exp (s i₀ - m) := by
    have := hle i₀ hi
    have h1 := hs i₀
    generalize s i₀ = x at *
    induction x with
    | top => exact absurd rfl h1
    | bot => exact absurd rfl h₀
    | coe x =>
      induction m with
      | top => exact absurd rfl htop
      | bot => exact absurd (le_bot_iff.mp this) (EReal.coe_ne_bot x)
      | coe m => rw [← EReal.coe_sub, Ideal.exp_coe]; exact EReal.coe_pos.mpr (Real.exp_pos _)
  have hl : 0 < l := by
    rw [h.sum]
    exact lt_of_lt_of_le hpos (Finset.single_le_sum (f := fun i => Ideal.exp (s i - m))
      (fun i hi => (exp_weight (hle i hi) htop).1) hi)
  have hinv : Weight l⁻¹ := by
    refine ⟨EReal.inv_nonneg_of_nonneg hl.le, ?_⟩
    induction l with
    | bot => exact absurd hl (by simp)
    | top => simp
    | coe r => rw [← EReal.coe_inv]; exact EReal.coe_ne_top _
  simp only [Ideal.div, hl.ne', if_false]
  rw [mul_comm a, h.mean, hinv.mul_sum]
  refine Finset.sum_congr rfl fun i _ => ?_
  rw [mul_comm (v i), mul_comm _ l⁻¹, mul_assoc]

end Cert.Proof.Online

end
-- ==== Proof.AttnReads.lean ====
/-
  THE PAYLOADS OF A KEY BLOCK, read at a row (over the extended reals): the scores, the running maximum, the weights,
  the running sums, for a block without a mask and for the one on the diagonal.  The second head of a pair computes by
  the same operations, printed a second time.
-/
module

public import proofs.«01_k».proof.Proof.Gen.KernelIdeal.Loops
public import proofs.«01_k».proof.Proof.Online
public import Idealize.ShloMosaic.Lib.Pointwise

@[expose] public section

set_option maxRecDepth 16384

noncomputable section

namespace Cert.Proof.KernelIdeal

open Cert.KernelIdeal Cert.KernelIdeal.Gen Idealize.ShloMosaic

abbrev QBlk := Vec Ideal S1x256x128 .bf16
abbrev Col := FVec Ideal S256x1 .f32
abbrev Acc := FVec Ideal S256x128 .f32

/-- The word of −∞ is the least extended real. -/
theorem ofBits_least : Ideal.ofBits .f32 0xFF800000#32 = (⊥ : EReal) := by
  simp [Ideal.ofBits, Ideal.ieee]

/-- A maximum folded from −∞ is a supremum. -/
theorem fold_max_sup {ι : Type*} (s : Finset ι) (f : ι → EReal) :
    Finset.fold max (Ideal.ofBits .f32 0xFF800000#32) f s = s.sup f := by
  rw [ofBits_least]; rfl

/-- The score of query row `r` against key row `j` of a block. -/
def dotRow (q k : QBlk) (r j : Fin 256) : EReal := ∑ d : Fin 128, q (ix3 0 r d) * k (ix3 0 j d)

/-! ### A block without a mask -/

theorem pay7_apply (q k : QBlk) (r j : Fin 256) : k0_pay7 (F := Ideal) q k (ix2 r j) = dotRow q k r j := by
  unfold k0_pay7 k0_pay3 dotRow
  pointwise

theorem pay8_apply (q k : QBlk) (m : Col) (r : Fin 256) :
    k0_pay8 (F := Ideal) q m k (ix2 r 0) = max (m (ix2 r 0)) (Finset.univ.sup fun j => dotRow q k r j) := by
  unfold k0_pay8
  pointwise
  simp only [pay7_apply, fold_max_sup]

theorem pay9_apply (q k : QBlk) (m : Col) (r j : Fin 256) :
    k0_pay9 (F := Ideal) q m k (ix2 r j) = Ideal.exp (dotRow q k r j - k0_pay8 (F := Ideal) q m k (ix2 r 0)) := by
  unfold k0_pay9
  pointwise
  simp only [pay7_apply]

theorem pay10_apply (q k : QBlk) (m : Col) (r : Fin 256) :
    k0_pay10 (F := Ideal) q m k (ix2 r 0) = Ideal.exp (m (ix2 r 0) - k0_pay8 (F := Ideal) q m k (ix2 r 0)) := by
  unfold k0_pay10
  pointwise

theorem pay11_apply (q k : QBlk) (m l : Col) (r : Fin 256) :
    k0_pay11 (F := Ideal) q m l k (ix2 r 0) = Ideal.exp (m (ix2 r 0) - k0_pay8 (F := Ideal) q m k (ix2 r 0)) * l (ix2 r 0)
      + ∑ j, Ideal.exp (dotRow q k r j - k0_pay8 (F := Ideal) q m k (ix2 r 0)) := by
  unfold k0_pay11
  pointwise
  simp only [pay9_apply, pay10_apply]

theorem pay12_apply (q k v : QBlk) (m : Col) (a : Acc) (r : Fin 256) (d : Fin 128) :
    k0_pay12 (F := Ideal) q m a k v (ix2 r d) = Ideal.exp (m (ix2 r 0) - k0_pay8 (F := Ideal) q m k (ix2 r 0)) * a (ix2 r d)
      + ∑ j, Ideal.exp (dotRow q k r j - k0_pay8 (F := Ideal) q m k (ix2 r 0)) * v (ix3 0 j d) := by
  unfold k0_pay12
  pointwise
  simp only [pay9_apply, pay10_apply]

/-! ### The block on the diagonal -/

/-- The mask bits the kernel computes. -/
abbrev maskBits : IVec S256x256 1 := k0_pay1 k0_pay49 k0_pay50 k0_pay51 k0_pay52 k0_pay53

theorem pay49_apply (r j : Fin 256) : k0_pay49 (ix2 r j) = BitVec.ofNat 32 (r.val / 64) := by
  unfold k0_pay49
  pointwise
  revert r; decide +kernel

/-- The chunk of a key, as the kernel divides. -/
theorem keyChunk (j : Fin 256) :
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32) = BitVec.ofNat 32 (j.val / 64) := by
  revert j; decide +kernel

/-- Small words compare as the numbers do. -/
theorem chunk_le (a b : ℕ) (ha : a < 2 ^ 30) (hb : b < 2 ^ 30) :
    IntOp.cmpi .sle (BitVec.ofNat 32 a) (BitVec.ofNat 32 b) = BitVec.ofBool (decide (a ≤ b)) := by
  unfold IntOp.cmpi
  congr 1
  simp only [BitVec.sle, BitVec.toInt_ofNat']
  rw [Int.bmod_eq_of_le (by omega) (by omega), Int.bmod_eq_of_le (by omega) (by omega)]
  simp only [Int.ofNat_le]

/-- A key is seen when its chunk of 64 is not after the query's. -/
theorem maskBits_apply (r j : Fin 256) : maskBits (ix2 r j) = BitVec.ofBool (decide (j.val / 64 ≤ r.val / 64)) := by
  unfold maskBits k0_pay1
  pointwise
  rw [pay49_apply]
  unfold k0_pay50 k0_pay51 k0_pay52 k0_pay53
  pointwise
  refine (congrArg (fun w => IntOp.cmpi .sle w (BitVec.ofNat 32 (r.val / 64))) (keyChunk j)).trans ?_
  exact chunk_le (j.val / 64) (r.val / 64) (by omega) (by omega)

/-- The score with what the mask hides at `⊥`. -/
def maskRow (q k : QBlk) (r j : Fin 256) : EReal := if j.val / 64 ≤ r.val / 64 then dotRow q k r j else ⊥

theorem pay19_apply (q k : QBlk) (r j : Fin 256) : k0_pay19 (F := Ideal) maskBits q k (ix2 r j) = maskRow q k r j := by
  unfold k0_pay19 k0_pay3 maskRow dotRow
  pointwise
  rw [maskBits_apply]
  have hm : (Named.named κ "mask" 0xF149F2CA#32 : Ideal .f32) = (⊥ : EReal) :=
    IdealRules.named_const.ideal_named_scalar _ _ _ _ rfl
  rw [Scalar.select, hm]
  by_cases h : j.val / 64 ≤ r.val / 64
  · rw [if_pos h, if_pos (by simp [h])]
  · rw [if_neg h, if_neg (by simp [h])]

theorem pay20_apply (q k : QBlk) (m : Col) (r : Fin 256) :
    k0_pay20 (F := Ideal) maskBits q m k (ix2 r 0) = max (m (ix2 r 0)) (Finset.univ.sup fun j => maskRow q k r j) := by
  unfold k0_pay20
  pointwise
  simp only [pay19_apply, fold_max_sup]

theorem pay21_apply (q k : QBlk) (m : Col) (r j : Fin 256) :
    k0_pay21 (F := Ideal) maskBits q m k (ix2 r j)
      = Ideal.exp (maskRow q k r j - k0_pay20 (F := Ideal) maskBits q m k (ix2 r 0)) := by
  unfold k0_pay21
  pointwise
  simp only [pay19_apply]

theorem pay22_apply (q k : QBlk) (m : Col) (r : Fin 256) :
    k0_pay22 (F := Ideal) maskBits q m k (ix2 r 0)
      = Ideal.exp (m (ix2 r 0) - k0_pay20 (F := Ideal) maskBits q m k (ix2 r 0)) := by
  unfold k0_pay22
  pointwise

theorem pay23_apply (q k : QBlk) (m l : Col) (r : Fin 256) :
    k0_pay23 (F := Ideal) maskBits q m l k (ix2 r 0)
      = Ideal.exp (m (ix2 r 0) - k0_pay20 (F := Ideal) maskBits q m k (ix2 r 0)) * l (ix2 r 0)
      + ∑ j, Ideal.exp (maskRow q k r j - k0_pay20 (F := Ideal) maskBits q m k (ix2 r 0)) := by
  unfold k0_pay23
  pointwise
  simp only [pay21_apply, pay22_apply]

theorem pay48_apply (q k v : QBlk) (m : Col) (a : Acc) (r : Fin 256) (d : Fin 128) :
    k0_pay48 (F := Ideal) maskBits q m a k v (ix2 r d)
      = Ideal.exp (m (ix2 r 0) - k0_pay20 (F := Ideal) maskBits q m k (ix2 r 0)) * a (ix2 r d)
      + ∑ j, Ideal.exp (maskRow q k r j - k0_pay20 (F := Ideal) maskBits q m k (ix2 r 0)) * v (ix3 0 j d) := by
  unfold k0_pay48
  change _ = _
  rw [show k0_pay45 (F := Ideal) maskBits q m k = k0_pay21 maskBits q m k from rfl,
    show k0_pay46 (F := Ideal) maskBits q m k = k0_pay22 maskBits q m k from rfl]
  pointwise
  simp only [pay21_apply, pay22_apply]

/-! ### The quotient, and the pair's result -/

/-- The quotient of the first head is the quotient of its sums. -/
theorem pay26_eq (q k v : QBlk) (m l : Col) (a : Acc) (r : Fin 256) (d : Fin 128) :
    k0_pay26 (F := Ideal) (k0_pay23 maskBits q m l k) (k0_pay24 maskBits q m a k) (k0_pay25 maskBits q m k v) (ix2 r d)
      = Ideal.div (k0_pay48 (F := Ideal) maskBits q m a k v (ix2 r d)) (k0_pay23 (F := Ideal) maskBits q m l k (ix2 r 0)) := by
  unfold k0_pay26
  pointwise
  rfl

theorem pay2_apply (x y : Acc) (l : Col) (g : Vec Ideal S1x256x128 .f32) (r : Fin 256) (d : Fin 128) :
    k0_pay2 (F := Ideal) x l y g (ix3 0 r d)
      = (x (ix2 r d) + Ideal.div (y (ix2 r ⟨(d.val + 128 - 64) % 128, Nat.mod_lt _ (by decide)⟩)) (l (ix2 r 0)))
        * (g (ix3 0 r d) * Ideal.logistic (g (ix3 0 r d))) := by
  unfold k0_pay2
  pointwise

/-! ### The second head's payloads are the first's -/

theorem pay32_eq : k0_pay32 (F := Ideal) = k0_pay8 := rfl
theorem pay35_eq : k0_pay35 (F := Ideal) = k0_pay11 := rfl
theorem pay36_eq : k0_pay36 (F := Ideal) = k0_pay12 := rfl
theorem pay47_eq : k0_pay47 (F := Ideal) = k0_pay23 := rfl

end Cert.Proof.KernelIdeal

end
-- ==== Proof.AttnHead.lean ====
/-
  ONE HEAD OF A QUERY TILE: the key blocks gone through one after another are the softmax over all keys.
-/
module

public import proofs.«01_k».proof.Proof.AttnReads

@[expose] public section

set_option maxRecDepth 16384

noncomputable section

namespace Cert.Proof.KernelIdeal

open Cert.KernelIdeal Cert.KernelIdeal.Gen Idealize.ShloMosaic Cert.Proof.Online

abbrev Slab := Vec Ideal S1x4096x256 .bf16
abbrev Carry := Col × Col × Acc

/-- Position `r` of block `n`. -/
def pos (n : Fin 16) (r : Fin 256) : Fin 4096 := ⟨256 * n.val + r.val, by omega⟩

/-- Lane `d` of the pair's head `b`. -/
def lane (b : Fin 2) (d : Fin 128) : Fin 256 := ⟨128 * b.val + d.val, by omega⟩

/-- Block `n` of head `b`. -/
def sub (x : Slab) (b : Fin 2) (n : Fin 16) : QBlk := fun y => x (ix3 0 (pos n (y 1)) (lane b (y 2)))

/-- The product of a query with a key. -/
def qk (q k : Slab) (b : Fin 2) (p i : Fin 4096) : EReal := ∑ d : Fin 128, q (ix3 0 p (lane b d)) * k (ix3 0 i (lane b d))

/-- The score: what is in a later chunk than the query is masked. -/
def scoreOf (q k : Slab) (b : Fin 2) (p i : Fin 4096) : EReal := if i.val / 64 ≤ p.val / 64 then qk q k b p i else ⊥

/-- The softmax-weighted mean of the values. -/
def softmaxMean (s v : Fin 4096 → EReal) : EReal :=
  ∑ i, v i * Ideal.div (Ideal.exp (s i - Finset.univ.sup s)) (∑ j, Ideal.exp (s j - Finset.univ.sup s))

/-- The carried maximum, sum and weighted sum after `t` key blocks. -/
def carry (q k v : Slab) (b : Fin 2) (n : Fin 16) : ℕ → Carry
  | 0 => (k0_pay4, k0_pay5, k0_pay6)
  | t + 1 => if h : t < 16 then
      (k0_pay8 (sub q b n) (carry q k v b n t).1 (sub k b ⟨t, h⟩),
       k0_pay11 (sub q b n) (carry q k v b n t).1 (carry q k v b n t).2.1 (sub k b ⟨t, h⟩),
       k0_pay12 (sub q b n) (carry q k v b n t).1 (carry q k v b n t).2.2 (sub k b ⟨t, h⟩) (sub v b ⟨t, h⟩))
    else carry q k v b n t

theorem carry_succ (q k v : Slab) (b : Fin 2) (n t : Fin 16) : carry q k v b n (t.val + 1) =
    (k0_pay8 (sub q b n) (carry q k v b n t.val).1 (sub k b t),
     k0_pay11 (sub q b n) (carry q k v b n t.val).1 (carry q k v b n t.val).2.1 (sub k b t),
     k0_pay12 (sub q b n) (carry q k v b n t.val).1 (carry q k v b n t.val).2.2 (sub k b t) (sub v b t)) := by
  rw [carry.eq_2]; exact dif_pos t.isLt

/-- The keys of the first `t` blocks. -/
def keys (t : ℕ) : Finset (Fin 4096) := Finset.univ.filter fun i => i.val < 256 * t

theorem keys_succ (n : Fin 16) : keys n.val ∪ Finset.univ.image (pos n) = keys (n.val + 1) := by
  ext i
  simp only [keys, Finset.mem_union, Finset.mem_filter, Finset.mem_univ, true_and, Finset.mem_image]
  constructor
  · rintro (h | ⟨r, rfl⟩)
    · omega
    · have : (pos n r).val = 256 * n.val + r.val := rfl
      omega
  · intro h
    by_cases hi : i.val < 256 * n.val
    · exact .inl hi
    · exact .inr ⟨⟨i.val - 256 * n.val, by omega⟩, Fin.ext (by show 256 * n.val + (i.val - 256 * n.val) = i.val; omega)⟩

theorem pos_injective (n : Fin 16) : Function.Injective (pos n) := by
  intro a b h
  have h' : 256 * n.val + a.val = 256 * n.val + b.val := congrArg Fin.val h
  exact Fin.ext (by omega)

theorem pos_not_mem (n : Fin 16) (r : Fin 256) : pos n r ∉ keys n.val := by
  simp only [keys, Finset.mem_filter, Finset.mem_univ, true_and, pos]; omega

theorem dotRow_sub (q k : Slab) (b : Fin 2) (n t : Fin 16) (r j : Fin 256) :
    dotRow (sub q b n) (sub k b t) r j = qk q k b (pos n r) (pos t j) := rfl

/-- Before the diagonal nothing is masked. -/
theorem scoreOf_before (q k : Slab) (b : Fin 2) (n t : Fin 16) (h : t.val < n.val) (r j : Fin 256) :
    scoreOf q k b (pos n r) (pos t j) = dotRow (sub q b n) (sub k b t) r j := by
  rw [scoreOf, if_pos (by show (256 * t.val + j.val) / 64 ≤ (256 * n.val + r.val) / 64; omega)]; rfl

/-- On the diagonal the mask is the one within the block. -/
theorem scoreOf_diag (q k : Slab) (b : Fin 2) (n : Fin 16) (r j : Fin 256) :
    scoreOf q k b (pos n r) (pos n j) = maskRow (sub q b n) (sub k b n) r j := by
  have e : ((pos n j).val / 64 ≤ (pos n r).val / 64) = (j.val / 64 ≤ r.val / 64) := by
    show ((256 * n.val + j.val) / 64 ≤ (256 * n.val + r.val) / 64) = _
    exact propext ⟨fun h => by omega, fun h => by omega⟩
  rw [scoreOf, maskRow, dotRow_sub]
  simp only [e]

/-- After the diagonal everything is masked. -/
theorem scoreOf_after (q k : Slab) (b : Fin 2) (n : Fin 16) (r : Fin 256) (i : Fin 4096) (h : 256 * (n.val + 1) ≤ i.val) :
    scoreOf q k b (pos n r) i = ⊥ := by
  rw [scoreOf, if_neg]
  show ¬ i.val / 64 ≤ (256 * n.val + r.val) / 64
  omega

variable {q k v : Slab} {b : Fin 2} (hfin : ∀ p i, qk q k b p i ≠ ⊤ ∧ qk q k b p i ≠ ⊥)

include hfin in
theorem scoreOf_ne_top (p i : Fin 4096) : scoreOf q k b p i ≠ ⊤ := by
  rw [scoreOf]; split
  · exact (hfin p i).1
  · exact bot_ne_top

include hfin in
/-- The carried values are those of the keys gone through. -/
theorem carry_upto (n : Fin 16) (t : ℕ) (ht : t ≤ n.val) (r : Fin 256) (d : Fin 128) :
    Upto (keys t) (scoreOf q k b (pos n r)) (fun i => v (ix3 0 i (lane b d)))
      ((carry q k v b n t).1 (ix2 r 0)) ((carry q k v b n t).2.1 (ix2 r 0)) ((carry q k v b n t).2.2 (ix2 r d)) := by
  induction t with
  | zero =>
    have e : keys 0 = ∅ := by simp [keys]
    rw [e, show (carry q k v b n 0).1 (ix2 r 0) = ⊥ from ?_, show (carry q k v b n 0).2.1 (ix2 r 0) = 0 from ?_,
      show (carry q k v b n 0).2.2 (ix2 r d) = 0 from ?_]
    · exact Upto.empty _ _
    · show k0_pay6 (F := Ideal) (ix2 r d) = 0
      unfold k0_pay6; pointwise
    · show k0_pay5 (F := Ideal) (ix2 r 0) = 0
      unfold k0_pay5; pointwise
    · show k0_pay4 (F := Ideal) (ix2 r 0) = ⊥
      unfold k0_pay4; pointwise; exact ofBits_least
  | succ t ih =>
    have h16 : t < 16 := by omega
    have hs := (ih (by omega)).step (scoreOf_ne_top hfin (pos n r)) (pos ⟨t, h16⟩) (pos_injective _) (pos_not_mem _)
      (k0_pay8 (F := Ideal) (sub q b n) (carry q k v b n t).1 (sub k b ⟨t, h16⟩) (ix2 r 0))
      (by rw [pay8_apply]; simp only [scoreOf_before q k b n ⟨t, h16⟩ (by show t < n.val; omega)])
    have hk : keys t ∪ Finset.univ.image (pos ⟨t, h16⟩) = keys (t + 1) := keys_succ ⟨t, h16⟩
    rw [hk] at hs
    simp only [scoreOf_before q k b n ⟨t, h16⟩ (by show t < n.val; omega)] at hs
    rw [carry_succ q k v b n ⟨t, h16⟩]
    dsimp only
    rw [pay11_apply, pay12_apply]
    exact hs

include hfin in
/-- The head's quotient is the softmax-weighted mean over all keys. -/
theorem head_quotient (n : Fin 16) (r : Fin 256) (d : Fin 128) :
    Ideal.div
      (k0_pay48 (F := Ideal) maskBits (sub q b n) (carry q k v b n n.val).1 (carry q k v b n n.val).2.2 (sub k b n) (sub v b n) (ix2 r d))
      (k0_pay23 (F := Ideal) maskBits (sub q b n) (carry q k v b n n.val).1 (carry q k v b n n.val).2.1 (sub k b n) (ix2 r 0))
    = softmaxMean (scoreOf q k b (pos n r)) fun i => v (ix3 0 i (lane b d)) := by
  have hs := (carry_upto (v := v) hfin n n.val le_rfl r d).step (scoreOf_ne_top hfin (pos n r)) (pos n) (pos_injective _) (pos_not_mem _)
    (k0_pay20 (F := Ideal) maskBits (sub q b n) (carry q k v b n n.val).1 (sub k b n) (ix2 r 0))
    (by rw [pay20_apply]; simp only [scoreOf_diag])
  rw [keys_succ] at hs
  simp only [scoreOf_diag] at hs
  rw [pay48_apply, pay23_apply]
  have hu := hs.extend (Finset.subset_univ _) fun i _ hi =>
    scoreOf_after q k b n r i (by simpa [keys] using hi)
  refine (hu.quotient (scoreOf_ne_top hfin (pos n r)) (Finset.mem_univ (pos n r))
    (by rw [scoreOf, if_pos le_rfl]; exact (hfin _ _).2)).trans ?_
  rw [softmaxMean, hu.sum, hu.max]

end Cert.Proof.KernelIdeal

end
-- ==== Proof.AttnTile.lean ====
/-
  ONE QUERY TILE, from the blocks: what a trip of the kernel's outer loop stores.
-/
module

public import proofs.«01_k».proof.Proof.AttnRunIdeal
public import proofs.«01_k».proof.Proof.AttnHead
public import Idealize.ShloMosaic.Lib.WholeRead

@[expose] public section

set_option maxRecDepth 16384

noncomputable section

namespace Cert.Proof.KernelIdeal

open Cert.KernelIdeal Cert.KernelIdeal.Gen Idealize.ShloMosaic Idealize.ShloMosaic.TcCoe
open Idealize.SL Idealize.SL.RA Idealize.SL.BI

theorem trips_outer : k0_t1_loop.trips = 16 := by decide +kernel

theorem trips_keys : ∀ n : Fin k0_t1_loop.trips, (k0_t2_loop n).trips = n.val ∧ (k0_t4_loop n).trips = n.val
    ∧ (k0_t3_loop n).trips = 0 ∧ (k0_t5_loop n).trips = 0 := by decide +kernel

/-- The block number of a trip. -/
def tileNo (n : Fin k0_t1_loop.trips) : Fin 16 := ⟨n.val, trips_outer ▸ n.isLt⟩

/-- A load of 256 rows and 128 lanes of a block of a slab. -/
theorem read_sub (m : MQ) (hm : m.IsWhole) (x : Slab) (off : Fin 3 → ℕ) (inb) (b : Fin 2) (n : Fin 16)
    (h : off = ![0, 256 * n.val, 128 * b.val]) :
    (View.readAt (Elt Ideal) m.view (Rect.unit (s := S1x4096x256) off ![1, 256, 128] inb).toLoadRect (hm.unread x) : QBlk)
      = sub x b n := by
  subst h
  funext y
  rw [hm.readAt_unread]
  unfold sub
  congr 1
  funext a
  apply Fin.ext
  fin_cases a
  · have h0 : (y 0).val < 1 := (y 0).isLt
    have h0 : (y 0).val = 0 := by omega
    simp [h0]
  · simp [pos]
  · simp [lane]

variable (c : Dev nD) (i : grid0.Coords) (q : MQ) (hq : q.IsWhole) (k : MQ) (hk : k.IsWhole) (v : MQ) (hv : v.IsWhole)
    (g : MG) (hg : g.IsWhole) (o : MO) (ho : o.IsWhole) (xq xk xv : Slab) (xg : Vec Ideal S1x4096x128 .f32)

theorem st2_eq (v50 : IVec S256x256 1) (n : Fin k0_t1_loop.trips) (t : ℕ) (ht : t ≤ n.val) :
    st_k0_t2 (F := Ideal) Variants.none c none i q hq k hk v hv g hg o ho v50 0#32 1#32 n (sub xq 0 (tileNo n))
      (hk.unread xk) (hv.unread xv) (k0_pay4, k0_pay5, k0_pay6) t = carry xq xk xv 0 (tileNo n) t := by
  have h16 : n.val < 16 := trips_outer ▸ n.isLt
  induction t with
  | zero => rfl
  | succ t ih =>
    have h : t < (k0_t2_loop n).trips := by rw [(trips_keys n).1]; omega
    rw [st_k0_t2_succ _ _ _ _ _ _ _ _ _ _ _ _ _ _ _ _ _ _ _ _ _ _ ⟨t, h⟩, ih (by omega)]
    unfold tripR_k0_t2 trip_k0_t2
    dsimp only
    rw [carry_succ xq xk xv 0 (tileNo n) ⟨t, by omega⟩]
    rw [read_sub k hk xk _ _ 0 ⟨t, by omega⟩ (k0_off2_eq n ⟨t, h⟩), read_sub v hv xv _ _ 0 ⟨t, by omega⟩ (k0_off2_eq n ⟨t, h⟩)]

theorem st4_eq (v50 : IVec S256x256 1) (n : Fin k0_t1_loop.trips) (a7 v53 : BitVec 32) (v87 : Col) (v89 v91 : Acc)
    (t : ℕ) (ht : t ≤ n.val) :
    st_k0_t4 (F := Ideal) Variants.none c none i q hq k hk v hv g hg o ho v50 n a7 v53 v87 v89 v91 (sub xq 1 (tileNo n))
      (hk.unread xk) (hv.unread xv) (k0_pay28, k0_pay29, k0_pay30) t = carry xq xk xv 1 (tileNo n) t := by
  have h16 : n.val < 16 := trips_outer ▸ n.isLt
  induction t with
  | zero => rfl
  | succ t ih =>
    have h : t < (k0_t4_loop n).trips := by rw [(trips_keys n).2.1]; omega
    rw [st_k0_t4_succ _ _ _ _ _ _ _ _ _ _ _ _ _ _ _ _ _ _ _ _ _ _ _ _ _ ⟨t, h⟩, ih (by omega)]
    unfold tripR_k0_t4 trip_k0_t4
    dsimp only
    rw [carry_succ xq xk xv 1 (tileNo n) ⟨t, by omega⟩]
    rw [read_sub k hk xk _ _ 1 ⟨t, by omega⟩ (k0_off5_eq n ⟨t, h⟩), read_sub v hv xv _ _ 1 ⟨t, by omega⟩ (k0_off5_eq n ⟨t, h⟩)]
    rw [pay32_eq, pay35_eq, pay36_eq]

/-- The tile: both heads' quotients side by side, times the gate's sigmoid-weighted value. -/
theorem tile_eq (n : Fin k0_t1_loop.trips) :
    tile (F := Ideal) c i q hq k hk v hv g hg o ho k0_pay49 k0_pay50 k0_pay51 k0_pay52 k0_pay53 (hq.unread xq) (hk.unread xk)
      (hv.unread xv) (hg.unread xg) n
    = k0_pay2
        (k0_pay26 (k0_pay23 maskBits (sub xq 0 (tileNo n)) (carry xq xk xv 0 (tileNo n) n.val).1 (carry xq xk xv 0 (tileNo n) n.val).2.1 (sub xk 0 (tileNo n)))
          (k0_pay24 maskBits (sub xq 0 (tileNo n)) (carry xq xk xv 0 (tileNo n) n.val).1 (carry xq xk xv 0 (tileNo n) n.val).2.2 (sub xk 0 (tileNo n)))
          (k0_pay25 maskBits (sub xq 0 (tileNo n)) (carry xq xk xv 0 (tileNo n) n.val).1 (sub xk 0 (tileNo n)) (sub xv 0 (tileNo n))))
        (k0_pay23 maskBits (sub xq 1 (tileNo n)) (carry xq xk xv 1 (tileNo n) n.val).1 (carry xq xk xv 1 (tileNo n) n.val).2.1 (sub xk 1 (tileNo n)))
        (k0_pay48 maskBits (sub xq 1 (tileNo n)) (carry xq xk xv 1 (tileNo n) n.val).1 (carry xq xk xv 1 (tileNo n) n.val).2.2 (sub xk 1 (tileNo n)) (sub xv 1 (tileNo n)))
        (fun y => xg (ix3 0 (pos (tileNo n) (y 1)) (y 2))) := by
  have r0 := fun (m : MQ) (hm : m.IsWhole) x inb => read_sub m hm x (k0_off1 n) inb 0 (tileNo n) (k0_off1_eq n)
  have r1 := fun (m : MQ) (hm : m.IsWhole) x inb => read_sub m hm x (k0_off4 n) inb 1 (tileNo n) (k0_off4_eq n)
  unfold tile trip
  dsimp only
  unfold trip.sl.r_3 trip.sl.r_4 trip.sl.r_5
  rw [show Scf.trips (k0_t4_loop n).lb (k0_t4_loop n).ub (k0_t4_loop n).st = n.val from (trips_keys n).2.1,
    show Scf.trips (k0_t5_loop n).lb (k0_t5_loop n).ub (k0_t5_loop n).st = 0 from (trips_keys n).2.2.2]
  rw [st_k0_t5_zero, r1 q hq, r1 k hk, r1 v hv, st4_eq (ht := le_rfl)]
  unfold trip.sl.r trip.sl.r_1 trip.sl.r_2
  rw [show Scf.trips (k0_t2_loop n).lb (k0_t2_loop n).ub (k0_t2_loop n).st = n.val from (trips_keys n).1,
    show Scf.trips (k0_t3_loop n).lb (k0_t3_loop n).ub (k0_t3_loop n).st = 0 from (trips_keys n).2.2.1]
  rw [st_k0_t3_zero, r0 q hq, r0 k hk, r0 v hv, st2_eq (ht := le_rfl)]
  rw [pay47_eq]
  congr 1
  funext y
  rw [hg.readAt_unread]
  congr 1
  funext a
  apply Fin.ext
  have ho := k0_off7_eq n
  fin_cases a
  · have h0 : (y 0).val < 1 := (y 0).isLt
    have h0 : (y 0).val = 0 := by omega
    simp [ho, h0]
  · simp [pos, ho, tileNo]
  · simp [ho]

end Cert.Proof.KernelIdeal

end
-- ==== Proof.AttnPacked.lean ====
/-
  THE PACKED ARRAYS the kernel reads, entry by entry from the arguments.
-/
module

public import proofs.«01_k».proof.Proof.Gen.KernelIdeal.Frame
public import Idealize.ShloMosaic.Lib.Claim
public import Idealize.ShloMosaic.Lib.StableHlo.ReadAt
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The scale of the scores, as the program spells it. -/
abbrev scale : EReal := Ideal.ofBits .f32 0x3DD105EC#32

/-- The arguments, at their shapes. -/
abbrev argQn : Vec Ideal S16x4096x8x64 .f32 := m ((c : Thread nD τ).loc main_arg0)
abbrev argQr : Vec Ideal S16x4096x8x32 .f32 := m ((c : Thread nD τ).loc main_arg1)
abbrev argKn : Vec Ideal S16x4096x8x64 .f32 := m ((c : Thread nD τ).loc main_arg2)
abbrev argKr : Vec Ideal S16x4096x32 .f32 := m ((c : Thread nD τ).loc main_arg3)
abbrev argV : Vec Ideal S16x4096x8x64 .f32 := m ((c : Thread nD τ).loc main_arg4)
abbrev argG : Vec Ideal S16x4096x512 .f32 := m ((c : Thread nD τ).loc main_arg5)

/-- The packed arrays. -/
abbrev packQ : Vec Ideal S16x4096x1024 .bf16 := V m c main_v13
abbrev packK : Vec Ideal S16x4096x1024 .bf16 := V m c main_v15
abbrev packV : Vec Ideal S16x4096x1024 .bf16 := V m c main_v17

/-- Lane `d` of head `h` in the packed arrays. -/
def at8 (h : Fin 8) (d : ℕ) (hd : d < 128) : Fin 1024 := ⟨128 * h.val + d, by omega⟩

variable (b : Fin 16) (p : Fin 4096) (h : Fin 8)

theorem packQ_nope (d : Fin 64) : packQ m c (ix3 b p (at8 h d (by omega))) = argQn m c (ix4 b p h d) * scale := by
  have e1 : (128 * h.val + d.val) % 128 = d.val := by omega
  have e2 : (128 * h.val + d.val) / 128 = h.val := by omega
  unfold packQ V at8
  after_reads_at
  rw [dif_pos (by omega)]
  after_reads_at
  simp only [e1, e2]

theorem packQ_rope (d : Fin 32) : packQ m c (ix3 b p (at8 h (64 + d) (by omega))) = argQr m c (ix4 b p h d) * scale := by
  have e1 : (128 * h.val + (64 + d.val)) % 128 = 64 + d.val := by omega
  have e2 : (128 * h.val + (64 + d.val)) / 128 = h.val := by omega
  unfold packQ V at8
  after_reads_at
  rw [dif_neg (by omega), dif_pos (by omega)]
  after_reads_at
  simp only [e1, e2, Nat.add_sub_cancel_left]

theorem packQ_pad (d : Fin 32) : packQ m c (ix3 b p (at8 h (96 + d) (by omega))) = (0 : EReal) := by
  unfold packQ V at8
  after_reads_at
  rw [dif_neg (by omega), dif_neg (by omega)]
  after_reads_at

theorem packK_nope (d : Fin 64) : packK m c (ix3 b p (at8 h d (by omega))) = argKn m c (ix4 b p h d) := by
  have e1 : (128 * h.val + d.val) % 128 = d.val := by omega
  have e2 : (128 * h.val + d.val) / 128 = h.val := by omega
  unfold packK V at8
  after_reads_at
  rw [dif_pos (by omega)]
  after_reads_at
  simp only [e1, e2]

theorem packK_rope (d : Fin 32) : packK m c (ix3 b p (at8 h (64 + d) (by omega))) = argKr m c (ix3 b p d) := by
  have e1 : (128 * h.val + (64 + d.val)) % 128 = 64 + d.val := by omega
  unfold packK V at8
  after_reads_at
  rw [dif_neg (by omega), dif_pos (by omega)]
  after_reads_at
  simp only [e1, Nat.add_sub_cancel_left]

theorem packV_val (d : Fin 64) : packV m c (ix3 b p (at8 h d (by omega))) = argV m c (ix4 b p h d) := by
  have e1 : (128 * h.val + d.val) % 128 = d.val := by omega
  have e2 : (128 * h.val + d.val) / 128 = h.val := by omega
  unfold packV V at8
  after_reads_at
  rw [dif_pos (by omega)]
  after_reads_at
  simp only [e1, e2]

theorem packV_pad (d : Fin 64) : packV m c (ix3 b p (at8 h (64 + d) (by omega))) = (0 : EReal) := by
  unfold packV V at8
  after_reads_at
  rw [dif_neg (by omega)]
  after_reads_at

end Cert.Proof.KernelIdeal

end
-- ==== Proof.AttnValue.lean ====
/-
  WHAT THE ATTENTION KERNEL LEAVES in its result array, from the packed arrays and the gate: per query row and lane the
  softmax-weighted mean of the values, times the gate's sigmoid-weighted value.
-/
module

public import proofs.«01_k».proof.Proof.AttnTile
public import proofs.«01_k».proof.Proof.AttnPacked

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## One block -/

/-- One head's mean, at a query row and a lane. -/
def mean (q k v : Slab) (b : Fin 2) (p : Fin 4096) (d : Fin 128) : EReal :=
  softmaxMean (scoreOf q k b p) fun i => v (ix3 0 i (lane b d))

/-- The pair's result: the second head's lanes are turned by half. -/
def pairOut (q k v : Slab) (g : Vec Ideal S1x4096x128 .f32) : Vec Ideal S1x4096x128 .bf16 := fun y =>
  (mean q k v 0 (y 1) (y 2) + mean q k v 1 (y 1) ⟨((y 2).val + 128 - 64) % 128, Nat.mod_lt _ (by decide)⟩)
    * (g y * Ideal.logistic (g y))

theorem rows_emb (a : Fin k0_t1_loop.trips) (r : Fin 256) (d : Fin 128) :
    (rows a).emb (ix3 0 r d : S1x256x128.Idx) = (ix3 0 (pos (tileNo a) r) d : S1x4096x128.Idx) := by
  have ho := k0_off7_eq a
  funext e
  apply Fin.ext
  rw [Rect.emb_apply]
  fin_cases e
  · simp [rows, ho]
  · simp [rows, ho, pos, tileNo]
  · simp [rows, ho]

section
variable (c : Dev nD) (i : grid0.Coords) (q : MQ) (hq : q.IsWhole) (k : MQ) (hk : k.IsWhole) (v : MQ) (hv : v.IsWhole)
    (g : MG) (hg : g.IsWhole) (o : MO) (ho : o.IsWhole) (xq xk xv : Slab) (xg : Vec Ideal S1x4096x128 .f32)
    (hfin : ∀ b p i, qk xq xk b p i ≠ ⊤ ∧ qk xq xk b p i ≠ ⊥)

include hfin

theorem tile_at (a : Fin k0_t1_loop.trips) (x : S1x256x128.Idx) :
    tile (F := Ideal) c i q hq k hk v hv g hg o ho k0_pay49 k0_pay50 k0_pay51 k0_pay52 k0_pay53 (hq.unread xq) (hk.unread xk)
      (hv.unread xv) (hg.unread xg) a x = pairOut xq xk xv xg ((rows a).emb x) := by
  obtain ⟨r, d, rfl⟩ : ∃ r d, x = (ix3 0 r d : S1x256x128.Idx) := by
    refine ⟨x 1, x 2, ?_⟩
    funext e
    match e with
    | ⟨0, _⟩ => exact Fin.ext (by have : (x 0).val < 1 := (x 0).isLt; show (x 0).val = 0; omega)
    | ⟨1, _⟩ => rfl
    | ⟨2, _⟩ => rfl
  rw [rows_emb, tile_eq, pay2_apply, pay26_eq]
  exact congrArg₂ (· * ·) (congrArg₂ (· + ·) (head_quotient (v := xv) (hfin 0) (tileNo a) r d)
    (head_quotient (v := xv) (hfin 1) (tileNo a) r ⟨(d.val + 128 - 64) % 128, Nat.mod_lt _ (by decide)⟩)) rfl

theorem block_eq : block (F := Ideal) c i q hq k hk v hv g hg o ho xq xk xv xg = pairOut xq xk xv xg := by
  funext y
  unfold block
  refine View.canon_apply_of_pieces (pairOut xq xk xv xg) _ (fun p hp x => ?_) y ?_
  · obtain ⟨a, rfl⟩ := exists_of_mem_tiles (F := Ideal) _ _ _ _ _ _ _ _ _ _ _ _ _ _ _ _ _ _ _ _ _ hp
    exact tile_at c i q hq k hk v hv g hg o ho xq xk xv xg hfin a x
  · obtain ⟨a, ha⟩ := covers y
    exact ⟨_, mem_tiles (F := Ideal) _ _ _ _ _ _ _ _ _ _ _ _ _ _ _ _ _ _ _ _ _ a a.isLt, ha⟩

end

end Cert.Proof.KernelIdeal

end
-- ==== Proof.AttnPair.lean ====
/-
  THE PACKED LANES undone: of finite queries and keys the product of two packed rows is the scaled score, and the padded
  lanes of the values have mean zero, so the pair's sum is one head's mean in each half of the lanes.
-/
module

public import proofs.«01_k».proof.Proof.AttnValue
public import proofs.«01_k».proof.Proof.AttnPacked

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.Sem

/-! ## Finite sums -/

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 128 lanes by its three stretches. -/
theorem sum_lanes (f : Fin 128 → EReal) : ∑ d, f d
    = ∑ d : Fin 64, f ⟨d.val, by omega⟩ + (∑ d : Fin 32, f ⟨64 + d.val, by omega⟩ + ∑ d : Fin 32, f ⟨96 + d.val, by omega⟩) := by
  have h1 := Fin.sum_univ_add (M := EReal) (a := 64) (b := 64) f
  have h2 := Fin.sum_univ_add (M := EReal) (a := 32) (b := 32) fun d => f (Fin.natAdd 64 d)
  refine h1.trans ?_
  refine congrArg₂ (· + ·) rfl (h2.trans ?_)
  refine congrArg₂ (· + ·) rfl (Finset.sum_congr rfl fun d _ => congrArg f (Fin.ext ?_))
  show 64 + (32 + d.val) = 96 + d.val
  omega

theorem scale_real : ∃ s : ℝ, scale = (s : EReal) := by
  simp [scale, Ideal.ofBits, Ideal.ieee, -EReal.coe_mul]

/-- The scaled score, of real entries. -/
theorem score_real (s : ℝ) (a b : Fin 64 → ℝ) (a' b' : Fin 32 → ℝ) (y : Fin 32 → EReal) :
    ∑ d, ((a d : EReal) * s) * (b d : EReal) + (∑ d, ((a' d : EReal) * s) * (b' d : EReal) + ∑ d, (0 : EReal) * y d)
      = (∑ d, (a d : EReal) * b d + ∑ d, (b' d : EReal) * a' d) * s
    ∧ ∃ x : ℝ, (∑ d, (a d : EReal) * b d + ∑ d, (b' d : EReal) * a' d) * s = (x : EReal) := by
  simp only [← EReal.coe_mul, ← coe_sum_real, ← EReal.coe_add, zero_mul, Finset.sum_const_zero, add_zero]
  refine ⟨congrArg _ ?_, _, rfl⟩
  rw [add_mul, Finset.sum_mul, Finset.sum_mul]
  exact congrArg₂ _ (Finset.sum_congr rfl fun _ _ => by ring) (Finset.sum_congr rfl fun _ _ => by ring)

variable (m : (ℓ : Loc nD τ sig) → Buf (Elt Ideal) ℓ) (c : Dev nD)

/-- Queries and keys are finite numbers. -/
structure Finite : Prop where
  qn : ∀ i, argQn m c i ≠ (⊤ : EReal) ∧ argQn m c i ≠ (⊥ : EReal)
  qr : ∀ i, argQr m c i ≠ (⊤ : EReal) ∧ argQr m c i ≠ (⊥ : EReal)
  kn : ∀ i, argKn m c i ≠ (⊤ : EReal) ∧ argKn m c i ≠ (⊥ : EReal)
  kr : ∀ i, argKr m c i ≠ (⊤ : EReal) ∧ argKr m c i ≠ (⊥ : EReal)

/-- The score of query `p` and key `i` of head `h`, unmasked. -/
def rawScore (b : Fin 16) (h : Fin 8) (p i : Fin 4096) : EReal :=
  ((∑ d : Fin 64, argQn m c (ix4 b p h d) * argKn m c (ix4 b i h d) : EReal)
    + (∑ d : Fin 32, argKr m c (ix3 b i d) * argQr m c (ix4 b p h d) : EReal)) * scale

/-- The 256 lanes of head pair `hp` of batch `b`. -/
@[irreducible]
def slab (x : Vec Ideal S16x4096x1024 .bf16) (b : Fin 16) (hp : Fin 4) : Slab :=
  fun y => x (ix3 b (y 1) ⟨256 * hp.val + (y 2).val, by have : (y 2).val < 256 := (y 2).isLt; omega⟩)

/-- The head. -/
def headOf (hp : Fin 4) (e : Fin 2) : Fin 8 := ⟨2 * hp.val + e.val, by omega⟩

theorem slab_at (x : Vec Ideal S16x4096x1024 .bf16) (b : Fin 16) (hp : Fin 4) (e : Fin 2) (p : Fin 4096) (d : Fin 128) :
    slab x b hp (ix3 0 p (lane e d)) = x (ix3 b p (at8 (headOf hp e) d.val d.isLt)) := by
  unfold slab
  refine congrArg x ?_
  refine congrArg (ix3 b p) (Fin.ext ?_)
  show 256 * hp.val + (128 * e.val + d.val) = 128 * (2 * hp.val + e.val) + d.val
  omega

variable {m c}

theorem qk_slab (hf : Finite m c) (b : Fin 16) (hp : Fin 4) (e : Fin 2) (p i : Fin 4096) :
    qk (slab (packQ m c) b hp) (slab (packK m c) b hp) e p i = rawScore m c b (headOf hp e) p i
      ∧ ∃ x : ℝ, rawScore m c b (headOf hp e) p i = (x : EReal) := by
  obtain ⟨s, hs⟩ := scale_real
  have L (x : EReal) (h : x ≠ ⊤ ∧ x ≠ ⊥) : x = (x.toReal : EReal) := (EReal.coe_toReal h.1 h.2).symm
  have key := score_real s (fun d => (argQn m c (ix4 b p (headOf hp e) d)).toReal) (fun d => (argKn m c (ix4 b i (headOf hp e) d)).toReal)
    (fun d => (argQr m c (ix4 b p (headOf hp e) d)).toReal) (fun d => (argKr m c (ix3 b i d)).toReal)
    (fun d => packK m c (ix3 b i (at8 (headOf hp e) (96 + d.val) (by omega))))
  simp only [← L _ (hf.qn _), ← L _ (hf.qr _), ← L _ (hf.kn _), ← L _ (hf.kr _), ← hs] at key
  refine ⟨?_, key.2⟩
  unfold qk
  simp only [slab_at]
  rw [sum_lanes]
  refine Eq.trans ?_ key.1
  refine congrArg₂ (· + ·) (Finset.sum_congr rfl fun d _ => ?_) (congrArg₂ (· + ·) (Finset.sum_congr rfl fun d _ => ?_) (Finset.sum_congr rfl fun d _ => ?_))
  · exact congrArg₂ (· * ·) (packQ_nope m c b p (headOf hp e) d) (packK_nope m c b i (headOf hp e) d)
  · exact congrArg₂ (· * ·) (packQ_rope m c b p (headOf hp e) d) (packK_rope m c b i (headOf hp e) d)
  · exact congrArg (· * _) (packQ_pad m c b p (headOf hp e) d)

/-- A head's attention at one query and one lane of the values: the softmax of the masked scores, as weights. -/
def attend (m : (ℓ : Loc nD τ sig) → Buf (Elt Ideal) ℓ) (c : Dev nD) (b : Fin 16) (h : Fin 8) (p : Fin 4096) (d : Fin 64) : EReal :=
  softmaxMean (fun i => if i.val / 64 ≤ p.val / 64 then rawScore m c b h p i else ⊥) fun i => argV m c (ix4 b i h d)

theorem scoreOf_slab (hf : Finite m c) (b : Fin 16) (hp : Fin 4) (e : Fin 2) (p : Fin 4096) :
    scoreOf (slab (packQ m c) b hp) (slab (packK m c) b hp) e p
      = fun i => if i.val / 64 ≤ p.val / 64 then rawScore m c b (headOf hp e) p i else ⊥ := by
  funext i
  unfold scoreOf
  rw [(qk_slab hf b hp e p i).1]

theorem qk_slab_finite (hf : Finite m c) (b : Fin 16) (hp : Fin 4) (e : Fin 2) (p i : Fin 4096) :
    qk (slab (packQ m c) b hp) (slab (packK m c) b hp) e p i ≠ ⊤ ∧ qk (slab (packQ m c) b hp) (slab (packK m c) b hp) e p i ≠ ⊥ := by
  obtain ⟨e1, x, e2⟩ := qk_slab hf b hp e p i
  rw [e1, e2]
  exact ⟨EReal.coe_ne_top x, EReal.coe_ne_bot x⟩

/-- In the first half of a head's lanes stands its attention, -/
theorem mean_val (hf : Finite m c) (b : Fin 16) (hp : Fin 4) (e : Fin 2) (p : Fin 4096) (d : Fin 64) :
    mean (slab (packQ m c) b hp) (slab (packK m c) b hp) (slab (packV m c) b hp) e p ⟨d.val, by omega⟩
      = attend m c b (headOf hp e) p d := by
  unfold mean attend
  rw [scoreOf_slab hf]
  refine congrArg _ (funext fun i => ?_)
  rw [slab_at]
  exact packV_val m c b i (headOf hp e) d

/-- in the second half nothing. -/
theorem mean_pad (b : Fin 16) (hp : Fin 4) (e : Fin 2) (p : Fin 4096) (d : Fin 64) :
    mean (slab (packQ m c) b hp) (slab (packK m c) b hp) (slab (packV m c) b hp) e p ⟨64 + d.val, by omega⟩ = 0 := by
  unfold mean softmaxMean
  refine Finset.sum_eq_zero fun i _ => ?_
  refine (congrArg (· * _) (slab_at _ b hp e i ⟨64 + d.val, by omega⟩)).trans ?_
  exact (congrArg (· * _) (packV_pad m c b i (headOf hp e) d)).trans (zero_mul _)

/-- The pair's sum: the first head in the first half of the lanes, the second in the second. -/
theorem pair_eq (hf : Finite m c) (b : Fin 16) (hp : Fin 4) (p : Fin 4096) (x : Fin 128) (y : Fin 128)
    (hy : y.val = (x.val + 128 - 64) % 128) :
    mean (slab (packQ m c) b hp) (slab (packK m c) b hp) (slab (packV m c) b hp) 0 p x
      + mean (slab (packQ m c) b hp) (slab (packK m c) b hp) (slab (packV m c) b hp) 1 p y
      = attend m c b (headOf hp ⟨x.val / 64, by omega⟩) p ⟨x.val % 64, by omega⟩ := by
  obtain ⟨x, hx⟩ := x
  obtain ⟨y, hy'⟩ := y
  dsimp only at hy ⊢
  by_cases h : x < 64
  · obtain rfl : y = 64 + x := by omega
    have h0 : x / 64 = 0 := by omega
    have h1 : x % 64 = x := by omega
    simp only [h0, h1]
    exact (congrArg₂ (· + ·) (mean_val hf b hp 0 p ⟨x, h⟩) (mean_pad b hp 1 p ⟨x, h⟩)).trans (add_zero _)
  · obtain ⟨d, rfl⟩ : ∃ d, x = 64 + d := ⟨x - 64, by omega⟩
    obtain rfl : y = d := by omega
    have h0 : (64 + y) / 64 = 1 := by omega
    have h1 : (64 + y) % 64 = y := by omega
    simp only [h0, h1]
    exact (congrArg₂ (· + ·) (mean_pad b hp 0 p ⟨y, by omega⟩) (mean_val hf b hp 1 p ⟨y, by omega⟩)).trans (zero_add _)

/-- What the kernel leaves: every head's attention, times the gate's sigmoid-weighted value. -/
def result (m : (ℓ : Loc nD τ sig) → Buf (Elt Ideal) ℓ) (c : Dev nD) : Vec Ideal S16x4096x512 .bf16 := fun i =>
  attend m c (i 0) ⟨(i 2).val / 64, by have : (i 2).val < 512 := (i 2).isLt; omega⟩ (i 1) ⟨(i 2).val % 64, by omega⟩
    * (argG m c i * Ideal.logistic (argG m c i))

end Cert.Proof.KernelIdeal

end
-- ==== Proof.AttnArray.lean ====
/-
  THE RESULT ARRAY: the blocks the points write back tile it, and hold every head's gated attention.
-/
module

public import proofs.«01_k».proof.Proof.AttnPair

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

variable {m : (ℓ : Loc nD τ sig) → Buf (Elt Ideal) ℓ} {c : Dev nD}

/-- Where the windows' blocks lie. -/
theorem index_in : ∀ t : Fin 64, (win0_0.index (t.cast N_0.symm) 0 = t.val / 4 ∧ win0_0.index (t.cast N_0.symm) 1 = 0 ∧ win0_0.index (t.cast N_0.symm) 2 = t.val % 4)
    ∧ (win0_1.index (t.cast N_0.symm) 0 = t.val / 4 ∧ win0_1.index (t.cast N_0.symm) 1 = 0 ∧ win0_1.index (t.cast N_0.symm) 2 = t.val % 4)
    ∧ (win0_2.index (t.cast N_0.symm) 0 = t.val / 4 ∧ win0_2.index (t.cast N_0.symm) 1 = 0 ∧ win0_2.index (t.cast N_0.symm) 2 = t.val % 4)
    ∧ (win0_3.index (t.cast N_0.symm) 0 = t.val / 4 ∧ win0_3.index (t.cast N_0.symm) 1 = 0 ∧ win0_3.index (t.cast N_0.symm) 2 = t.val % 4)
    ∧ (win0_4.index (t.cast N_0.symm) 0 = t.val / 4 ∧ win0_4.index (t.cast N_0.symm) 1 = 0 ∧ win0_4.index (t.cast N_0.symm) 2 = t.val % 4) := by
  decide +kernel

theorem xsize_out : ∀ t : Fin 64, win0_4.xsize (grid0.coords (t.cast N_0.symm)) 0 = 1 ∧ win0_4.xsize (grid0.coords (t.cast N_0.symm)) 1 = 4096
    ∧ win0_4.xsize (grid0.coords (t.cast N_0.symm)) 2 = 128 := by
  decide +kernel

/-- The batch and the head pair of a point. -/
def batchOf (t : Fin 64) : Fin 16 := ⟨t.val / 4, by omega⟩
def pairOf (t : Fin 64) : Fin 4 := ⟨t.val % 4, by omega⟩

/-- Lane `d` of head pair `hp` in the gate and the result. -/
def laneOut (hp : Fin 4) (d : Fin 128) : Fin 512 := ⟨128 * hp.val + d.val, by omega⟩

theorem read0 (X : Vec Ideal S16x4096x1024 .bf16) (t : Fin 64) :
    (((cfg0.win 0).blk (t.cast N_0.symm)).view.read (Elt Ideal) X : Slab) = slab X (batchOf t) (pairOf t) := by
  funext j
  obtain ⟨e0, e1, e2⟩ := (index_in t).1
  have h0 : (j 0).val < 1 := (j 0).isLt
  unfold slab
  rw [View.read_apply]
  show X _ = X _
  congr 1
  funext a
  apply Fin.ext
  match a with
  | ⟨0, _⟩ => show win0_0.index (t.cast N_0.symm) 0 * 1 + 1 * (j 0).val = t.val / 4; rw [e0]; omega
  | ⟨1, _⟩ => show win0_0.index (t.cast N_0.symm) 1 * 4096 + 1 * (j 1).val = (j 1).val; rw [e1]; omega
  | ⟨2, _⟩ => show win0_0.index (t.cast N_0.symm) 2 * 256 + 1 * (j 2).val = 256 * (t.val % 4) + (j 2).val; rw [e2]; omega

theorem read1 (X : Vec Ideal S16x4096x1024 .bf16) (t : Fin 64) :
    (((cfg0.win 1).blk (t.cast N_0.symm)).view.read (Elt Ideal) X : Slab) = slab X (batchOf t) (pairOf t) := by
  funext j
  obtain ⟨e0, e1, e2⟩ := (index_in t).2.1
  have h0 : (j 0).val < 1 := (j 0).isLt
  unfold slab
  rw [View.read_apply]
  show X _ = X _
  congr 1
  funext a
  apply Fin.ext
  match a with
  | ⟨0, _⟩ => show win0_1.index (t.cast N_0.symm) 0 * 1 + 1 * (j 0).val = t.val / 4; rw [e0]; omega
  | ⟨1, _⟩ => show win0_1.index (t.cast N_0.symm) 1 * 4096 + 1 * (j 1).val = (j 1).val; rw [e1]; omega
  | ⟨2, _⟩ => show win0_1.index (t.cast N_0.symm) 2 * 256 + 1 * (j 2).val = 256 * (t.val % 4) + (j 2).val; rw [e2]; omega

theorem read2 (X : Vec Ideal S16x4096x1024 .bf16) (t : Fin 64) :
    (((cfg0.win 2).blk (t.cast N_0.symm)).view.read (Elt Ideal) X : Slab) = slab X (batchOf t) (pairOf t) := by
  funext j
  obtain ⟨e0, e1, e2⟩ := (index_in t).2.2.1
  have h0 : (j 0).val < 1 := (j 0).isLt
  unfold slab
  rw [View.read_apply]
  show X _ = X _
  congr 1
  funext a
  apply Fin.ext
  match a with
  | ⟨0, _⟩ => show win0_2.index (t.cast N_0.symm) 0 * 1 + 1 * (j 0).val = t.val / 4; rw [e0]; omega
  | ⟨1, _⟩ => show win0_2.index (t.cast N_0.symm) 1 * 4096 + 1 * (j 1).val = (j 1).val; rw [e1]; omega
  | ⟨2, _⟩ => show win0_2.index (t.cast N_0.symm) 2 * 256 + 1 * (j 2).val = 256 * (t.val % 4) + (j 2).val; rw [e2]; omega

theorem read3 (X : Vec Ideal S16x4096x512 .f32) (t : Fin 64) :
    (((cfg0.win 3).blk (t.cast N_0.symm)).view.read (Elt Ideal) X : Vec Ideal S1x4096x128 .f32)
      = fun j => X (ix3 (batchOf t) (j 1) (laneOut (pairOf t) (j 2))) := by
  funext j
  obtain ⟨e0, e1, e2⟩ := (index_in t).2.2.2.1
  have h0 : (j 0).val < 1 := (j 0).isLt
  rw [View.read_apply]
  show X _ = X _
  congr 1
  funext a
  apply Fin.ext
  match a with
  | ⟨0, _⟩ => show win0_3.index (t.cast N_0.symm) 0 * 1 + 1 * (j 0).val = t.val / 4; rw [e0]; omega
  | ⟨1, _⟩ => show win0_3.index (t.cast N_0.symm) 1 * 4096 + 1 * (j 1).val = (j 1).val; rw [e1]; omega
  | ⟨2, _⟩ => show win0_3.index (t.cast N_0.symm) 2 * 128 + 1 * (j 2).val = 128 * (t.val % 4) + (j 2).val; rw [e2]; omega

theorem iblk3 (t : Fin 64) : (iblk m c 3 (t.cast N_0.symm) : Vec Ideal S1x4096x128 .f32)
    = fun j => argG m c (ix3 (batchOf t) (j 1) (laneOut (pairOf t) (j 2))) :=
  (read3 (V m c main_arg5) t).trans (by rw [V_main_arg5])

/-- What the point's block of the result is made of. -/
theorem pairOut_eq (hf : Finite m c) (t : Fin 64) :
    pairOut (slab (packQ m c) (batchOf t) (pairOf t)) (slab (packK m c) (batchOf t) (pairOf t)) (slab (packV m c) (batchOf t) (pairOf t))
      (fun j => argG m c (ix3 (batchOf t) (j 1) (laneOut (pairOf t) (j 2))))
    = fun j => result m c (ix3 (batchOf t) (j 1) (laneOut (pairOf t) (j 2))) := by
  funext j
  have h2 : (j 2).val < 128 := (j 2).isLt
  unfold pairOut result
  refine congrArg₂ (· * ·) ((pair_eq hf (batchOf t) (pairOf t) (j 1) (j 2) _ rfl).trans ?_) rfl
  have e1 : (128 * (t.val % 4) + (j 2).val) / 64 = 2 * (t.val % 4) + (j 2).val / 64 := by omega
  have e2 : (128 * (t.val % 4) + (j 2).val) % 64 = (j 2).val % 64 := by omega
  exact congrArg₂ (fun h d => attend m c (batchOf t) h (j 1) d) (Fin.ext e1.symm) (Fin.ext e2.symm)

theorem blockAt_eq (hf : Finite m c) (t : Fin 64) :
    blockAt m c (t.cast N_0.symm) = fun j => result m c (ix3 (batchOf t) (j 1) (laneOut (pairOf t) (j 2))) := by
  unfold blockAt
  rw [show iblk m c 0 (t.cast N_0.symm) = slab (packQ m c) (batchOf t) (pairOf t) from read0 (V m c main_v13) t,
    show iblk m c 1 (t.cast N_0.symm) = slab (packK m c) (batchOf t) (pairOf t) from read1 (V m c main_v15) t,
    show iblk m c 2 (t.cast N_0.symm) = slab (packV m c) (batchOf t) (pairOf t) from read2 (V m c main_v17) t, iblk3]
  rw [block_eq (hfin := fun b p i => qk_slab_finite hf _ _ b p i)]
  exact pairOut_eq hf t

theorem read4 (X : Vec Ideal S16x4096x512 .bf16) (t : Fin 64) :
    (cfg0.win 4).cut (grid0.coords (t.cast N_0.symm)) (fun j : S1x4096x128.Idx => X (ix3 (batchOf t) (j 1) (laneOut (pairOf t) (j 2))))
      = (win0_4.blk (t.cast N_0.symm)).view.read (Elt Ideal) X := by
  obtain ⟨e0, e1, e2⟩ := (index_in t).2.2.2.2
  funext j
  have h0 : (j 0).val < 1 := lt_of_lt_of_eq (j 0).isLt (xsize_out t).1
  rw [View.read_apply]
  show X _ = X _
  congr 1
  funext a
  apply Fin.ext
  match a with
  | ⟨0, _⟩ => show t.val / 4 = win0_4.index (t.cast N_0.symm) 0 * 1 + 1 * (j 0).val; rw [e0]; omega
  | ⟨1, _⟩ => show (j 1).val = win0_4.index (t.cast N_0.symm) 1 * 4096 + 1 * (j 1).val; rw [e1]; omega
  | ⟨2, _⟩ => show 128 * (t.val % 4) + (j 2).val = win0_4.index (t.cast N_0.symm) 2 * 128 + 1 * (j 2).val; rw [e2]; omega

theorem flushed_eq (hf : Finite m c) (t : Fin 64) :
    (dats m 0 c).flushed 4 (t.cast N_0.symm) = (win0_4.blk (t.cast N_0.symm)).view.read (Elt Ideal) (result m c) := by
  show (cfg0.win 4).cut (grid0.coords (t.cast N_0.symm)) ((dats m 0 c).after 4 (t.cast N_0.symm)) = _
  rw [left4, blockAt_eq hf]
  exact read4 (result m c) t

theorem mem_blk (t : Fin 64) (i : S16x4096x512.Idx) (h0 : (i 0).val = t.val / 4) (h2 : (i 2).val / 128 = t.val % 4) :
    i ∈ ((cfg0.win 4).blk (t.cast N_0.symm)).view.set := by
  show i ∈ ((View.whole main_v18).slice (win0_4.rect (t.cast N_0.symm))).set
  rw [View.set_slice_whole, Rect.mem_set_unit]
  have h1 : (i 1).val < 4096 := (i 1).isLt
  obtain ⟨e0, e1, e2⟩ := (index_in t).2.2.2.2
  obtain ⟨x0, x1, x2⟩ := xsize_out t
  intro a
  match a with
  | ⟨0, _⟩ =>
    show win0_4.index (t.cast N_0.symm) 0 * 1 ≤ (i 0).val ∧ (i 0).val < win0_4.index (t.cast N_0.symm) 0 * 1 + win0_4.xsize (grid0.coords (t.cast N_0.symm)) 0
    rw [e0, x0]; omega
  | ⟨1, _⟩ =>
    show win0_4.index (t.cast N_0.symm) 1 * 4096 ≤ (i 1).val ∧ (i 1).val < win0_4.index (t.cast N_0.symm) 1 * 4096 + win0_4.xsize (grid0.coords (t.cast N_0.symm)) 1
    rw [e1, x1]; omega
  | ⟨2, _⟩ =>
    show win0_4.index (t.cast N_0.symm) 2 * 128 ≤ (i 2).val ∧ (i 2).val < win0_4.index (t.cast N_0.symm) 2 * 128 + win0_4.xsize (grid0.coords (t.cast N_0.symm)) 2
    rw [e2, x2]; omega

theorem cover (i : S16x4096x512.Idx) : ∃ t : Fin cfg0.N, (cfg0.win 4).flush t = true ∧ i ∈ ((cfg0.win 4).blk t).view.set := by
  have h0 : (i 0).val < 16 := (i 0).isLt
  have h2 : (i 2).val < 512 := (i 2).isLt
  exact ⟨(⟨4 * (i 0).val + (i 2).val / 128, by omega⟩ : Fin 64).cast N_0.symm, flush0_4 _,
    mem_blk _ i (by show (i 0).val = (4 * (i 0).val + (i 2).val / 128) / 4; omega) (by show (i 2).val / 128 = (4 * (i 0).val + (i 2).val / 128) % 4; omega)⟩

theorem final_o (hf : Finite m c) : (dats m 0 c).arrAt 4 cfg0.N = result m c :=
  (dats m 0 c).arrAt_eq_of_cover 4 (result m c) (fun t _ => flushed_eq hf (t.cast N_0)) cover

end Cert.Proof.KernelIdeal

end
-- ==== Proof.AttnRef.lean ====
/-
  THE REFERENCE, entry by entry: every head's softmax attention, times the gate's sigmoid-weighted value.
-/
module

public import proofs.«01_k».proof.Proof.AttnArray
public import proofs.«01_k».proof.Proof.Gen.ReferenceIdeal.Read

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe
open Cert.Proof.KernelIdeal (softmaxMean fold_max_sup ofBits_least chunk_le)

/-! ## The mask -/

/-- A word's sign. -/
def signOf (x : BitVec 32) : BitVec 32 := if x = 0 then 0 else if x.msb then -1 else 1

/-- The chunk of a position, as the reference divides. -/
theorem chunk_bits : ∀ n : Fin 4096,
    Scalar.select
      (IntOp.andi
        (IntOp.cmpi .ne (signOf (BitVec.ofNat 32 n.val)) (signOf 64#32))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64) := by
  decide +kernel

theorem chunk_apply (i : S4096.Idx) : val_main_v7 (F := Ideal) i = BitVec.ofNat 32 ((i 0).val / 64) := by
  rw [val_main_v7_apply, val_main_call0_v11_apply, val_main_call0_v13_apply, val_main_call0_v6_apply, val_main_call0_v10_apply,
    val_main_call0_v5_apply, val_main_call0_v12_apply, val_main_call0_v9_apply, val_main_call0_v8_apply, val_main_call0_v2_apply,
    val_main_call0_v7_apply, val_main_call0_v1_apply]
  exact chunk_bits (i 0)

theorem mask_apply (p i : Fin 4096) : val_main_v12 (F := Ideal) (ix2 p i) = BitVec.ofBool (decide (i.val / 64 ≤ p.val / 64)) := by
  rw [val_main_v12_apply, val_main_v10_apply, val_main_v11_apply, val_main_v8_apply, val_main_v9_apply, chunk_apply, chunk_apply]
  exact chunk_le _ _ (by show i.val / 64 < _; omega) (by show p.val / 64 < _; omega)

/-! ## The attention -/

variable (x0 : Vec Ideal S16x4096x8x64 .f32) (x1 : Vec Ideal S16x4096x8x32 .f32) (x2 : Vec Ideal S16x4096x8x64 .f32)
  (x3 : Vec Ideal S16x4096x32 .f32) (x4 : Vec Ideal S16x4096x8x64 .f32) (x5 : Vec Ideal S16x4096x512 .f32)
  (b : Fin 16) (h : Fin 8) (p : Fin 4096)

/-- The unmasked score. -/
def raw (i : Fin 4096) : EReal :=
  ((∑ d : Fin 64, x0 (ix4 b p h d) * x2 (ix4 b i h d) : EReal) + (∑ d : Fin 32, x3 (ix3 b i d) * x1 (ix4 b p h d) : EReal))
    * Ideal.ofBits .f32 0x3DD105EC#32

/-- The masked score. -/
def masked (i : Fin 4096) : EReal := if i.val / 64 ≤ p.val / 64 then raw x0 x1 x2 x3 b h p i else ⊥

theorem score_apply (i : Fin 4096) : val_main_v13 (F := Ideal) x0 x1 x2 x3 (ix4 b h p i) = masked x0 x1 x2 x3 b h p i := by
  rw [val_main_v13_apply, val_main_call1_v1_apply,
    show idx_main_call1_v1 (ix4 b h p i) = ix2 p i from funext fun a => match a with | ⟨0, _⟩ => rfl | ⟨1, _⟩ => rfl,
    mask_apply, val_main_v5_apply, val_main_v3_apply, val_main_v0_apply, val_main_v2_apply, val_main_v1_apply,
    val_main_call1_v2_apply, val_main_call1_v0_apply, val_main_cst_0_apply, val_main_v4_apply, val_main_cst_apply]
  unfold masked Scalar.select
  by_cases hm : i.val / 64 ≤ p.val / 64
  · simp only [hm, decide_true, if_true]
    refine congrArg (· * _) (congrArg₂ (· + ·) (Finset.sum_congr rfl fun d _ => ?_) (Finset.sum_congr rfl fun d _ => ?_))
    · exact congrArg₂ (· * ·)
        (congrArg x0 (funext fun a => match a with | ⟨0, _⟩ => rfl | ⟨1, _⟩ => rfl | ⟨2, _⟩ => rfl | ⟨3, _⟩ => rfl))
        (congrArg x2 (funext fun a => match a with | ⟨0, _⟩ => rfl | ⟨1, _⟩ => rfl | ⟨2, _⟩ => rfl | ⟨3, _⟩ => rfl))
    · exact congrArg₂ (· * ·)
        (congrArg x3 (funext fun a => match a with | ⟨0, _⟩ => rfl | ⟨1, _⟩ => rfl | ⟨2, _⟩ => rfl))
        (congrArg x1 (funext fun a => match a with | ⟨0, _⟩ => rfl | ⟨1, _⟩ => rfl | ⟨2, _⟩ => rfl | ⟨3, _⟩ => rfl))
  · simp only [hm, decide_false, if_false]
    exact ofBits_least

theorem max_apply : val_main_v14 (F := Ideal) x0 x1 x2 x3 (ix3 b h p) = Finset.univ.sup (masked x0 x1 x2 x3 b h p) := by
  have hr : S16x8x4096x4096.Reduces [3] S16x8x4096 := by decide +kernel
  unfold val_main_v14
  rw [Host.reduce_eq_fold_single FloatOps.maximumf _ _ _ hr]
  refine Eq.trans ?_ (fold_max_sup Finset.univ (masked x0 x1 x2 x3 b h p))
  refine congrArg (fun f => Finset.fold max (Ideal.ofBits .f32 0xFF800000#32) f (Finset.univ : Finset (Fin 4096))) (funext fun i => ?_)
  refine Eq.trans (congrArg (val_main_v13 (F := Ideal) x0 x1 x2 x3) (funext fun a => ?_)) (score_apply x0 x1 x2 x3 b h p i)
  match a with | ⟨0, _⟩ => rfl | ⟨1, _⟩ => rfl | ⟨2, _⟩ => rfl | ⟨3, _⟩ => rfl

theorem exp_apply (i : Fin 4096) : val_main_v20 (F := Ideal) x0 x1 x2 x3 (ix4 b h p i)
    = Ideal.exp (masked x0 x1 x2 x3 b h p i - Finset.univ.sup (masked x0 x1 x2 x3 b h p)) := by
  rw [val_main_v20_apply, val_main_v19_apply, score_apply, val_main_v18_apply, val_main_v17_apply,
    show idx_main_v17 (idx_main_v18 (ix4 b h p i)) = ix3 b h p from funext fun a => match a with | ⟨0, _⟩ => rfl | ⟨1, _⟩ => rfl | ⟨2, _⟩ => rfl,
    val_main_v16_apply, max_apply, val_main_v15_apply, val_main_cst_2_apply]
  have e : (max (Ideal.ofBits .f32 0xFF800000#32) (Finset.univ.sup (masked x0 x1 x2 x3 b h p)) : EReal)
      = Finset.univ.sup (masked x0 x1 x2 x3 b h p) := by rw [ofBits_least]; exact max_eq_right bot_le
  exact congrArg (fun y => Ideal.exp (masked x0 x1 x2 x3 b h p i - y)) e

theorem weight_apply (i : Fin 4096) : val_main_v24 (F := Ideal) x0 x1 x2 x3 (ix4 b h p i)
    = Ideal.div (Ideal.exp (masked x0 x1 x2 x3 b h p i - Finset.univ.sup (masked x0 x1 x2 x3 b h p)))
        (∑ j, Ideal.exp (masked x0 x1 x2 x3 b h p j - Finset.univ.sup (masked x0 x1 x2 x3 b h p))) := by
  rw [val_main_v24_apply, exp_apply, val_main_v23_apply, val_main_v22_apply,
    show idx_main_v22 (idx_main_v23 (ix4 b h p i)) = ix3 b h p from funext fun a => match a with | ⟨0, _⟩ => rfl | ⟨1, _⟩ => rfl | ⟨2, _⟩ => rfl,
    val_main_v21_apply, val_main_cst_3_apply]
  refine congrArg (Ideal.div _) ?_
  refine (congrArg (· + _) Ideal.ofBits_zero_f32).trans ((zero_add _).trans (Finset.sum_congr rfl fun j _ => ?_))
  rw [show idx_main_v21 (ix3 b h p) j = ix4 b h p j from funext fun a => match a with | ⟨0, _⟩ => rfl | ⟨1, _⟩ => rfl | ⟨2, _⟩ => rfl | ⟨3, _⟩ => rfl,
    exp_apply]

theorem mean_apply (d : Fin 64) : val_main_v25 (F := Ideal) x0 x1 x2 x3 x4 (ix4 b h d p)
    = softmaxMean (masked x0 x1 x2 x3 b h p) fun i => x4 (ix4 b i h d) := by
  rw [val_main_v25_apply]
  unfold softmaxMean
  refine Finset.sum_congr rfl fun i _ => congrArg₂ (· * ·)
    (congrArg x4 (funext fun a => match a with | ⟨0, _⟩ => rfl | ⟨1, _⟩ => rfl | ⟨2, _⟩ => rfl | ⟨3, _⟩ => rfl)) ?_
  rw [show ridx_main_v25 (ix4 b h d p) i = ix4 b h p i from funext fun a => match a with | ⟨0, _⟩ => rfl | ⟨1, _⟩ => rfl | ⟨2, _⟩ => rfl | ⟨3, _⟩ => rfl]
  exact weight_apply x0 x1 x2 x3 b h p i

theorem gate_apply (i : S16x4096x512.Idx) : val_main_v28 (F := Ideal) x5 i = (x5 i * Ideal.logistic (x5 i) : EReal) := by
  rw [val_main_v28_apply, val_main_call2_v5_apply, val_main_call2_v4_apply, val_main_call2_cst_0_apply, val_main_call2_v3_apply,
    val_main_call2_v2_apply, val_main_call2_cst_apply, val_main_call2_v1_apply, val_main_call2_v0_apply]
  have e : (Ideal.div (Ideal.ofBits .f32 0x3F800000#32) (Ideal.ofBits .f32 0x3F800000#32 + Ideal.exp (-(x5 i : EReal))) : EReal)
      = Ideal.logistic (x5 i) := by rw [Ideal.ofBits_one_f32]; rfl
  exact congrArg (fun y : EReal => (x5 i * y : EReal)) e

/-- What the reference leaves. -/
theorem result_apply (i : S16x4096x512.Idx) : val_main_v30 (F := Ideal) x0 x1 x2 x3 x4 x5 i
    = (softmaxMean (masked x0 x1 x2 x3 (i 0) ⟨(i 2).val / 64, by have : (i 2).val < 512 := (i 2).isLt; omega⟩ (i 1))
        fun k => x4 (ix4 (i 0) k ⟨(i 2).val / 64, by have : (i 2).val < 512 := (i 2).isLt; omega⟩ ⟨(i 2).val % 64, by omega⟩))
      * (x5 i * Ideal.logistic (x5 i)) := by
  have h0 : (i 0).val < 16 := (i 0).isLt
  have h1 : (i 1).val < 4096 := (i 1).isLt
  have h2 : (i 2).val < 512 := (i 2).isLt
  rw [val_main_v30_apply, val_main_v29_apply, gate_apply, val_main_v27_apply, val_main_v26_apply]
  refine congrArg (· * _) ?_
  refine Eq.trans (congrArg (val_main_v25 (F := Ideal) x0 x1 x2 x3 x4) (funext fun a => Fin.ext ?_))
    (mean_apply x0 x1 x2 x3 x4 (i 0) ⟨(i 2).val / 64, by omega⟩ (i 1) ⟨(i 2).val % 64, by omega⟩)
  match a with
  | ⟨0, _⟩ => show (((i 0).val * 4096 + (i 1).val) * 512 + (i 2).val) / 2097152 = (i 0).val; omega
  | ⟨1, _⟩ => show (((i 0).val * 4096 + (i 1).val) * 512 + (i 2).val) / 64 % 8 = (i 2).val / 64; omega
  | ⟨2, _⟩ => show (((i 0).val * 4096 + (i 1).val) * 512 + (i 2).val) % 64 = (i 2).val % 64; omega
  | ⟨3, _⟩ => show (((i 0).val * 4096 + (i 1).val) * 512 + (i 2).val) / 512 % 4096 = (i 1).val; omega

end Cert.Proof.ReferenceIdeal

end
-- ==== Proof.AttnClaims.lean ====
/-
  THE CLAIMS ABOUT THE ATTENTION: what the precondition says of the arguments, both runs read at their results, and the two
  results equal.
-/
module

public import proofs.«01_k».proof.Defs
public import proofs.«01_k».proof.Proof.AttnRun
public import proofs.«01_k».proof.Proof.AttnRef
public import proofs.«01_k».proof.Proof.Gen.ReferenceIdeal.Run
public import proofs.«01_k».proof.Proof.Gen.Pre_finite_scores
public import Idealize.ShloMosaic.Lib.Claim
public import Idealize.ShloMosaic.Lib.Quiescent

@[expose] public section

set_option maxRecDepth 16384

noncomputable section

namespace Cert.Proof.Attention

open Idealize.ShloMosaic Idealize.ShloMosaic.TcCoe Idealize.SL Idealize.SL.Sem

/-! ## The precondition -/

/-- A magnitude below +∞ is a finite number's. -/
theorem finite_of_cmp (x : EReal) (h : Ideal.cmp .olt (max x (-x)) (Ideal.ofBits .f32 0x7F800000#32) = 1#1) : x ≠ ⊤ ∧ x ≠ ⊥ := by
  have e : Ideal.ofBits .f32 0x7F800000#32 = (⊤ : EReal) := by simp [Ideal.ofBits, Ideal.ieee]
  rw [e] at h
  have hl : max x (-x) < ⊤ := by
    by_contra hn
    change BitVec.ofBool (decide (max x (-x) < ⊤)) = 1#1 at h
    rw [decide_eq_false hn] at h
    exact absurd h (by decide)
  refine ⟨fun h => ?_, fun h => ?_⟩ <;> subst h <;> simp at hl

theorem finite_of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.Proof.KernelIdeal.Finite m c where
  qn i := finite_of_cmp _ (congrFun (h c).1 i)
  qr i := finite_of_cmp _ (congrFun (h c).2.1 i)
  kn i := finite_of_cmp _ (congrFun (h c).2.2.1 i)
  kr i := finite_of_cmp _ (congrFun (h c).2.2.2 i)

/-! ## The runs -/

theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The two results are one. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v30 (F := Ideal) (Cert.Proof.KernelIdeal.argQn m c) (Cert.Proof.KernelIdeal.argQr m c)
      (Cert.Proof.KernelIdeal.argKn m c) (Cert.Proof.KernelIdeal.argKr m c) (Cert.Proof.KernelIdeal.argV m c)
      (Cert.Proof.KernelIdeal.argG m c) = Cert.Proof.KernelIdeal.result m c := by
  funext i
  exact Cert.Proof.ReferenceIdeal.result_apply _ _ _ _ _ _ i

theorem algebraic : Cert.algebraic_KernelIdeal_ReferenceIdeal_pre_finite_scores := by
  intro m ρ m' ρ' hpre hagree
  refine ⟨fun c => Cert.Proof.KernelIdeal.result m c, ?_, ?_⟩
  · have hres : θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v18) = Cert.Proof.KernelIdeal.result m c) :=
      (θ_run Cert.KernelIdeal.defs _ _).mono
        (fun _ h c => ((h c).1 4).trans (Cert.Proof.KernelIdeal.final_o (finite_of_pre m hpre c)))
        (Cert.Proof.KernelIdeal.arrays m ρ)
    exact (θ_run _ _ _).mono (fun r h c => ⟨h.1 c, h.2.1 c⟩) (θ_run_and hres (Cert.Proof.KernelIdeal.unchanged m ρ))
  · refine (θ_run _ _ _).mono (fun r h c => ⟨(h c).1.trans ?_, (h c).2⟩) (Cert.ReferenceIdeal.Value.run (F := Ideal) m' ρ')
    obtain ⟨e0, e1, e2, e3, e4, e5⟩ := hagree c
    rw [Cert.ReferenceIdeal.Read.val_main_v30_eq, e0, e1, e2, e3, e4, e5]
    exact results_agree m c

end Cert.Proof.Attention

end
-- ==== Proof.OutValue.lean ====
/-
  THE OUTPUT PROJECTION: the array it leaves, entry by entry from the arguments.
-/
module

public import proofs.«01_k».proof.Proof.Gen.KernelOutIdeal.Value
public import Idealize.ShloMosaic.Lib.Claim
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.KernelOut

open Cert.KernelOutIdeal Cert.KernelOutIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The arguments, at their shapes. -/
abbrev argA : Vec Ideal S65536x512 .bf16 := m ((c : Thread nD τ).loc main_arg0)
abbrev argS : Vec Ideal S65536x512 .bf16 := m ((c : Thread nD τ).loc main_arg1)
abbrev argX : Vec Ideal S65536x1024 .f32 := m ((c : Thread nD τ).loc main_arg2)
abbrev argW : Vec Ideal S1024x1024 .f32 := m ((c : Thread nD τ).loc main_arg3)

/-- The two halves of the weights, as the kernel holds them. -/
theorem upper_apply (k : Fin 512) (j : Fin 1024) :
    (V m c main_v1 : Vec Ideal S512x1024 .bf16) (ix2 k j) = argW m c (ix2 ⟨k.val, by omega⟩ j) := by
  unfold V
  after_reads_at

theorem lower_apply (k : Fin 512) (j : Fin 1024) :
    (V m c main_v3 : Vec Ideal S512x1024 .bf16) (ix2 k j) = argW m c (ix2 ⟨512 + k.val, by omega⟩ j) := by
  unfold V
  after_reads_at

/-- The result: both branches' products, and the residual. -/
def result : Vec Ideal S65536x1024 .f32 := fun i =>
  ((∑ k : Fin 512, argA m c (ix2 (i 0) k) * argW m c (ix2 ⟨k.val, by omega⟩ (i 1)) : EReal)
    + (∑ k : Fin 512, argS m c (ix2 (i 0) k) * argW m c (ix2 ⟨512 + k.val, by omega⟩ (i 1)) : EReal)) + argX m c i

theorem pay_apply (a s : Vec Ideal S512x512 .bf16) (x : Vec Ideal S512x1024 .f32) (u v : Vec Ideal S512x1024 .bf16) (y : S512x1024.Idx) :
    k0_pay1 (F := Ideal) a u s v x y
      = ((∑ k : Fin 512, a (ix2 (y 0) k) * u (ix2 k (y 1)) : EReal) + (∑ k : Fin 512, s (ix2 (y 0) k) * v (ix2 k (y 1)) : EReal)) + x (ix2 (y 0) (y 1)) := by
  pointwise [k0_pay1]

/-- Where the windows' blocks lie. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by
  decide +kernel

theorem row_lt (t : Fin cfg0.N) (p : Fin 512) : 512 * t.val + p.val < 65536 := by
  have : t.val < 128 := lt_of_lt_of_eq t.isLt N_0
  omega

theorem blockA (t : Fin cfg0.N) (p k : Fin 512) :
    (iblk m c 0 t : Vec Ideal S512x512 .bf16) (ix2 p k) = argA m c (ix2 ⟨512 * t.val + p.val, row_lt t p⟩ k) := by
  blk_ext [iblk, V, idx t]

theorem blockS (t : Fin cfg0.N) (p k : Fin 512) :
    (iblk m c 1 t : Vec Ideal S512x512 .bf16) (ix2 p k) = argS m c (ix2 ⟨512 * t.val + p.val, row_lt t p⟩ k) := by
  blk_ext [iblk, V, idx t]

theorem blockX (t : Fin cfg0.N) (p : Fin 512) (j : Fin 1024) :
    (iblk m c 2 t : Vec Ideal S512x1024 .f32) (ix2 p j) = argX m c (ix2 ⟨512 * t.val + p.val, row_lt t p⟩ j) := by
  blk_ext [iblk, V, idx t]

theorem blockU (t : Fin cfg0.N) (k : Fin 512) (j : Fin 1024) :
    (iblk m c 3 t : Vec Ideal S512x1024 .bf16) (ix2 k j) = (V m c main_v1 : Vec Ideal S512x1024 .bf16) (ix2 k j) := by
  blk_ext [iblk, idx t]

theorem blockL (t : Fin cfg0.N) (k : Fin 512) (j : Fin 1024) :
    (iblk m c 4 t : Vec Ideal S512x1024 .bf16) (ix2 k j) = (V m c main_v3 : Vec Ideal S512x1024 .bf16) (ix2 k j) := by
  blk_ext [iblk, idx t]

theorem final : (dats m 0 c).arrAt 5 cfg0.N = result m c := by
  refine (dats m 0 c).arrAt_eq_of_covers 5 _ (by decide +kernel) fun t hf y => ?_
  have hi : ((View.whole main_v4).slice (win0_5.rect t)).emb y = (ix2 ⟨512 * t.val + (y 0).val, row_lt t (y 0)⟩ (y 1) : S65536x1024.Idx) := by
    blk_ext [idx t]
  blk_simp
  rw [after0_5]
  frame_out
  rw [pay_apply, hi]
  refine congrArg₂ (· + ·) (congrArg₂ (· + ·) (Finset.sum_congr rfl fun k _ => ?_) (Finset.sum_congr rfl fun k _ => ?_)) ?_
  · exact congrArg₂ (· * ·) (blockA m c t _ k) ((blockU m c t k _).trans (upper_apply m c k _))
  · exact congrArg₂ (· * ·) (blockS m c t _ k) ((blockL m c t k _).trans (lower_apply m c k _))
  · exact blockX m c t _ _

end Cert.Proof.KernelOut

end
-- ==== Proof.OutClaims.lean ====
/-
  THE CLAIMS ABOUT THE OUTPUT PROJECTION: the reference read entry by entry, and the two results equal.
-/
module

public import proofs.«01_k».proof.Defs
public import proofs.«01_k».proof.Proof.OutValue
public import proofs.«01_k».proof.Proof.Gen.ReferenceOutIdeal.Run
public import proofs.«01_k».proof.Proof.Gen.ReferenceOutIdeal.Read
public import Idealize.ShloMosaic.Lib.Quiescent

@[expose] public section

set_option maxRecDepth 16384

noncomputable section

namespace Cert.Proof.Out

open Idealize.ShloMosaic Idealize.ShloMosaic.TcCoe Idealize.SL Idealize.SL.Sem
open Cert.ReferenceOutIdeal.Read Cert.ReferenceOutIdeal.Gen

theorem frame_reference : Cert.quiescent_ReferenceOutIdeal := fun m ρ _ =>
  (θ_run (Cert.ReferenceOutIdeal.defs (F := Ideal)) _ _).mono (fun r h => ⟨fun c => (h c).2, sem_eq_zero_of_no_sems (by decide) r.2⟩)
    (Cert.ReferenceOutIdeal.Value.run (F := Ideal) m ρ)

/-- A row of the two branches side by side. -/
theorem mixed_apply (x0 x1 : Vec Ideal ⟨2, ![65536, 512]⟩ .bf16) (r : Fin 65536) (k : Fin 1024) :
    val_main_v1 (F := Ideal) x0 x1 (ix2 r k)
      = if h : k.val < 512 then x0 (ix2 r ⟨k.val, h⟩) else x1 (ix2 r ⟨k.val - 512, by omega⟩) := by
  pointwise [val_main_v1, val_main_v0]

theorem lidx_eq (i : Cert.ReferenceOutIdeal.S65536x1024.Idx) (k : Fin 1024) : lidx_main_v2 i k = ix2 (i 0) k :=
  funext fun a => match a with | ⟨0, _⟩ => rfl | ⟨1, _⟩ => rfl

theorem results_agree (m : (ℓ : Loc Cert.KernelOutIdeal.nD Cert.KernelOutIdeal.τ Cert.KernelOutIdeal.sig) → Buf (Elt Ideal) ℓ)
    (c : Dev Cert.KernelOutIdeal.nD) :
    val_main_v3 (F := Ideal) (KernelOut.argA m c) (KernelOut.argS m c) (KernelOut.argX m c) (KernelOut.argW m c) = KernelOut.result m c := by
  funext i
  rw [val_main_v3_apply, val_main_v2_apply]
  unfold KernelOut.result
  refine (add_comm _ _).trans (congrArg (· + _) ?_)
  refine (Fin.sum_univ_add (a := 512) (b := 512) _).trans (congrArg₂ (· + ·) (Finset.sum_congr rfl fun k _ => ?_) (Finset.sum_congr rfl fun k _ => ?_))
  · refine congrArg₂ (· * ·) ((congrArg _ (lidx_eq i _)).trans ((mixed_apply _ _ (i 0) ⟨k.val, by omega⟩).trans (dif_pos k.isLt))) (congrArg (KernelOut.argW m c) (funext fun a => ?_))
    match a with | ⟨0, _⟩ => rfl | ⟨1, _⟩ => rfl
  · refine congrArg₂ (· * ·) ((congrArg _ (lidx_eq i _)).trans ((mixed_apply _ _ (i 0) ⟨512 + k.val, by omega⟩).trans ((dif_neg (by simp)).trans ?_))) (congrArg (KernelOut.argW m c) (funext fun a => ?_))
    · exact congrArg (KernelOut.argS m c) (congrArg (ix2 (i 0)) (Fin.ext (Nat.add_sub_cancel_left 512 k.val)))
    · match a with | ⟨0, _⟩ => rfl | ⟨1, _⟩ => rfl

theorem algebraic : Cert.algebraic_KernelOutIdeal_ReferenceOutIdeal := by
  intro m ρ m' ρ' _ hagree
  refine ⟨fun c => KernelOut.result m c, ?_, ?_⟩
  · exact (θ_run _ _ _).mono (fun r h c => ⟨(h c).1.trans (KernelOut.final m c), (h c).2⟩) (Cert.KernelOutIdeal.Value.run_blocks (F := Ideal) m ρ)
  · refine (θ_run _ _ _).mono (fun r h c => ⟨(h c).1.trans ?_, (h c).2⟩) (Cert.ReferenceOutIdeal.Value.run (F := Ideal) m' ρ')
    obtain ⟨e0, e1, e2, e3⟩ := hagree c
    rw [val_main_v3_eq, e0, e1, e2, e3]
    exact results_agree m c

end Cert.Proof.Out

end
-- ==== Proof.InMath.lean ====
/-
  THE INPUT PROJECTIONS AS MATHEMATICS: what a token's row of each result is, and the identities between the two ways to compute it.
-/
module

public import Idealize.ShloMosaic.Lib.Claim
public import Idealize.ShloMosaic.Lib.IdealHost
public import Idealize.ShloMosaic.Lib.Pointwise

@[expose] public section

set_option maxRecDepth 16384

noncomputable section

namespace Cert.Proof.In

open Idealize.ShloMosaic Idealize.ShloMosaic.TcCoe

/-! ## Sums -/

/-- A sum whose terms vanish outside a window of indexes is the window's. -/
theorem sum_window {N : ℕ} (g : Fin N → EReal) (o n : ℕ) (ho : o + n ≤ N)
    (h0 : ∀ k : Fin N, ¬(o ≤ k.val ∧ k.val < o + n) → g k = 0) :
    ∑ k, g k = ∑ k : Fin n, g ⟨o + k.val, by omega⟩ := by
  refine (Finset.sum_of_injOn (fun k : Fin n => (⟨o + k.val, by omega⟩ : Fin N)) (fun a _ b _ h => ?_) (fun _ _ => Finset.mem_coe.mpr (Finset.mem_univ _))
    (fun k _ hk => h0 k fun hw => hk ⟨⟨k.val - o, by omega⟩, Finset.mem_coe.mpr (Finset.mem_univ _), Fin.ext (by simp only; omega)⟩) (fun _ _ => rfl)).symm
  have := congrArg Fin.val h
  exact Fin.ext (by simp only at this; omega)

/-- A finite factor, not negative, goes into a sum. -/
theorem sum_mul_real {n : ℕ} (f : Fin n → EReal) (c : EReal) (h0 : 0 ≤ c) (ht : c ≠ ⊤) : (∑ k, f k) * c = ∑ k, f k * c := by
  induction n with
  | zero => simp
  | succ n ih =>
    rw [Fin.sum_univ_succ, Fin.sum_univ_succ, EReal.right_distrib_of_nonneg_of_ne_top h0 ht, ih]

/-! ## The constants -/

abbrev eps : EReal := Ideal.ofBits .f32 0x358637BD#32
abbrev scale : EReal := Ideal.ofBits .f32 0x3DD105EC#32

theorem eps_word : eps = ((8796093 / 8796093022208 : ℝ) : EReal) := by
  simp [Ideal.ofBits, Ideal.ieee]; norm_cast
theorem scale_word : scale = ((13698540 / 134217728 : ℝ) : EReal) := by
  simp [Ideal.ofBits, Ideal.ieee]; norm_cast

theorem eps_real : ∃ e : ℝ, 0 < e ∧ eps = (e : EReal) := ⟨_, by norm_num, eps_word⟩

theorem scale_real : 0 ≤ scale ∧ scale ≠ ⊤ := by
  rw [scale_word]
  exact ⟨EReal.coe_nonneg.mpr (by norm_num), EReal.coe_ne_top _⟩

theorem word_1024 : Ideal.ofBits .f32 0x44800000#32 = ((1024 : ℝ) : EReal) := by
  simp [Ideal.ofBits, Ideal.ieee]; norm_cast; norm_num
theorem word_64 : Ideal.ofBits .f32 0x42800000#32 = ((64 : ℝ) : EReal) := by
  simp [Ideal.ofBits, Ideal.ieee]; norm_cast; norm_num
theorem word_32 : Ideal.ofBits .f32 0x42000000#32 = ((32 : ℝ) : EReal) := by
  simp [Ideal.ofBits, Ideal.ieee]; norm_cast; norm_num
theorem word_64th : Ideal.ofBits .f32 0x3C800000#32 = ((1 / 64 : ℝ) : EReal) := by
  simp [Ideal.ofBits, Ideal.ieee]; norm_cast; norm_num
theorem word_32th : Ideal.ofBits .f32 0x3D000000#32 = ((1 / 32 : ℝ) : EReal) := by
  simp [Ideal.ofBits, Ideal.ieee]; norm_cast; norm_num

/-! ## The reciprocal of a root mean square -/

/-- One over the root of the mean of squares (and the small constant), the mean a quotient by `d`. -/
def inv {n : ℕ} (d : BitVec 32) (v : Fin n → EReal) : EReal :=
  Ideal.rsqrt (Ideal.div (∑ j, v j * v j) (Ideal.ofBits .f32 d) + eps)

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

theorem rsqrt_real (x : EReal) (hx : 0 ≤ x) : 0 ≤ Ideal.rsqrt (x + eps) ∧ Ideal.rsqrt (x + eps) ≠ ⊤ := by
  obtain ⟨e, he, h⟩ := eps_real
  rw [h]
  induction x using EReal.rec with
  | bot => simp at hx
  | top => simp
  | coe r =>
    have hr : 0 ≤ r := EReal.coe_nonneg.mp hx
    rw [← EReal.coe_add, Ideal.rsqrt_coe, if_neg (by linarith), if_neg (by linarith)]
    exact ⟨EReal.coe_nonneg.mpr (inv_nonneg.mpr (Real.sqrt_nonneg _)), EReal.coe_ne_top _⟩

theorem inv_real {n : ℕ} (d : BitVec 32) (r : ℝ) (hr : 0 < r) (hd : Ideal.ofBits .f32 d = (r : EReal)) (v : Fin n → EReal) :
    0 ≤ inv d v ∧ inv d v ≠ ⊤ := by
  unfold inv
  refine rsqrt_real _ ?_
  rw [hd, Ideal.div_coe hr.ne']
  exact mul_nonneg (Finset.sum_nonneg fun j _ => sq_nonneg _) (EReal.coe_nonneg.mpr (by positivity))

/-- The same with the mean taken by weights. -/
theorem inv_of_weights {n N : ℕ} (d w : BitVec 32) (r : ℝ) (hr : 0 < r) (hd : Ideal.ofBits .f32 d = (r : EReal))
    (hw : Ideal.ofBits .f32 w = ((1 / r : ℝ) : EReal)) (o : ℕ) (ho : o + n ≤ N) (f e : Fin N → EReal)
    (he : ∀ k : Fin N, e k = if o ≤ k.val ∧ k.val < o + n then Ideal.ofBits .f32 w else 0) :
    Ideal.rsqrt ((∑ k, f k * f k * e k) + eps) = inv d fun k : Fin n => f ⟨o + k.val, by omega⟩ := by
  unfold inv
  rw [hd, Ideal.div_coe hr.ne', sum_mul_real _ _ (EReal.coe_nonneg.mpr (by positivity)) (EReal.coe_ne_top _),
    sum_window _ o n ho fun k hk => by rw [he, if_neg hk, mul_zero]]
  refine congrArg (fun s => Ideal.rsqrt (s + eps)) (Finset.sum_congr rfl fun k _ => ?_)
  rw [he, if_pos ⟨Nat.le_add_right _ _, Nat.add_lt_add_left k.isLt o⟩, hw]

/-! ## The rotation -/

/-- The other half's lane. -/
def swap (i : Fin 32) : Fin 32 := if h : i.val < 16 then ⟨i.val + 16, by omega⟩ else ⟨i.val - 16, by omega⟩

/-- Half-split rotation of a row of 32 lanes. -/
def rope (y : Fin 32 → EReal) (cs sn : Fin 16 → EReal) (i : Fin 32) : EReal :=
  if h : i.val < 16 then y i * cs ⟨i.val, h⟩ - y (swap i) * sn ⟨i.val, h⟩
  else y i * cs ⟨i.val - 16, by omega⟩ + y (swap i) * sn ⟨i.val - 16, by omega⟩

/-- The tables of 32 lanes: the cosine twice, and the sine with its sign. -/
def cos2 (cs : Fin 16 → EReal) (i : Fin 32) : EReal := if h : i.val < 16 then cs ⟨i.val, h⟩ else cs ⟨i.val - 16, by omega⟩
def sin2 (sn : Fin 16 → EReal) (i : Fin 32) : EReal := if h : i.val < 16 then -sn ⟨i.val, h⟩ else sn ⟨i.val - 16, by omega⟩

theorem rope_by_tables (y : Fin 32 → EReal) (cs sn : Fin 16 → EReal) (i : Fin 32) :
    rope y cs sn i = y i * cos2 cs i + y (swap i) * sin2 sn i := by
  unfold rope cos2 sin2
  by_cases h : i.val < 16
  · rw [dif_pos h, dif_pos h, dif_pos h, mul_neg, sub_eq_add_neg]
  · rw [dif_neg h, dif_neg h, dif_neg h]

/-- The rotation of a normalised row, the factor taken in front. -/
theorem rope_factor (r : EReal) (h0 : 0 ≤ r) (ht : r ≠ ⊤) (v g : Fin 32 → EReal) (cs sn : Fin 16 → EReal) (i : Fin 32) :
    r * (v i * (cos2 cs i * g i) + v (swap i) * (sin2 sn i * g (swap i))) = rope (fun j => v j * r * g j) cs sn i := by
  rw [rope_by_tables, EReal.left_distrib_of_nonneg_of_ne_top h0 ht]
  refine congrArg₂ (· + ·) ?_ ?_ <;> ac_rfl

/-- The same, scaled. -/
theorem rope_scaled (r s : EReal) (h0 : 0 ≤ s) (ht : s ≠ ⊤) (v g : Fin 32 → EReal) (cs sn : Fin 16 → EReal) (i : Fin 32) :
    v i * r * (cos2 cs i * (g i * s)) + v (swap i) * r * (sin2 sn i * (g (swap i) * s)) = rope (fun j => v j * r * g j) cs sn i * s := by
  rw [rope_by_tables, EReal.right_distrib_of_nonneg_of_ne_top h0 ht]
  refine congrArg₂ (· + ·) ?_ ?_ <;> ac_rfl

/-! ## A token's rows -/

/-- The arguments, at their shapes. -/
structure Args where
  x : Vec Ideal ⟨3, ![16, 4096, 1024]⟩ .f32
  cos : Vec Ideal ⟨2, ![4096, 16]⟩ .f32
  sin : Vec Ideal ⟨2, ![4096, 16]⟩ .f32
  ng : Vec Ideal ⟨1, ![1024]⟩ .f32
  win : Vec Ideal ⟨2, ![1024, 2208]⟩ .f32
  gql : Vec Ideal ⟨1, ![384]⟩ .f32
  wuq : Vec Ideal ⟨2, ![384, 768]⟩ .f32
  gkv : Vec Ideal ⟨1, ![256]⟩ .f32
  wuk : Vec Ideal ⟨3, ![256, 8, 64]⟩ .f32
  wuv : Vec Ideal ⟨3, ![256, 8, 64]⟩ .f32
  gqn : Vec Ideal ⟨1, ![64]⟩ .f32
  gqr : Vec Ideal ⟨1, ![32]⟩ .f32
  gkn : Vec Ideal ⟨1, ![64]⟩ .f32
  gkr : Vec Ideal ⟨1, ![32]⟩ .f32

variable (A : Args) (b : Fin 16) (p : Fin 4096) (h : Fin 8)

/-- The normalised row. -/
def hid (k : Fin 1024) : EReal := A.x (ix3 b p k) * inv 0x44800000#32 (fun j : Fin 1024 => A.x (ix3 b p j)) * A.ng (ix1 k)

/-- The row of all projections. -/
def proj (j : Fin 2208) : EReal := ∑ k : Fin 1024, hid A b p k * A.win (ix2 k j)

abbrev cosRow (j : Fin 16) : EReal := A.cos (ix2 p j)
abbrev sinRow (j : Fin 16) : EReal := A.sin (ix2 p j)

/-- The queries' latent row, normalised. -/
def qlat (j : Fin 384) : EReal := proj A b p ⟨j.val, by omega⟩
def qnorm (j : Fin 384) : EReal := qlat A b p j * inv 0x43C00000#32 (qlat A b p) * A.gql (ix1 j)

/-- The keys' and values' latent row. -/
def ckv (j : Fin 256) : EReal := proj A b p ⟨384 + j.val, by omega⟩
def lat (j : Fin 256) : EReal := ckv A b p j * inv 0x43800000#32 (ckv A b p) * A.gkv (ix1 j)

/-- The shared rotary key. -/
def kraw (j : Fin 32) : EReal := proj A b p ⟨640 + j.val, by omega⟩
def kr (i : Fin 32) : EReal :=
  rope (fun j => kraw A b p j * inv 0x42000000#32 (kraw A b p) * A.gkr (ix1 j)) (cosRow A p) (sinRow A p) i

/-- A head's query: plain lanes, rotary lanes, padding. -/
def qcol (d : ℕ) (hd : d < 96) : EReal := ∑ k : Fin 384, qnorm A b p k * A.wuq (ix2 k ⟨96 * h.val + d, by omega⟩)
def qnope (d : Fin 64) : EReal := qcol A b p h d.val (by omega)
def qrope (d : Fin 32) : EReal := qcol A b p h (64 + d.val) (by omega)
def qhead (l : Fin 128) : EReal :=
  if hl : l.val < 64 then qnope A b p h ⟨l.val, hl⟩ * inv 0x42800000#32 (qnope A b p h) * A.gqn (ix1 ⟨l.val, hl⟩) * scale
  else if hr : l.val < 96 then
    rope (fun j => qrope A b p h j * inv 0x42000000#32 (qrope A b p h) * A.gqr (ix1 j)) (cosRow A p) (sinRow A p) ⟨l.val - 64, by omega⟩ * scale
  else 0

/-- A head's key. -/
def kcol (d : Fin 64) : EReal := ∑ k : Fin 256, lat A b p k * A.wuk (ix3 k h d)
def khead (l : Fin 128) : EReal :=
  if hl : l.val < 64 then kcol A b p h ⟨l.val, hl⟩ * inv 0x42800000#32 (kcol A b p h) * A.gkn (ix1 ⟨l.val, hl⟩)
  else if hr : l.val < 96 then kr A b p ⟨l.val - 64, by omega⟩
  else 0

/-- A head's value. -/
def vhead (l : Fin 128) : EReal :=
  if hl : l.val < 64 then ∑ k : Fin 256, lat A b p k * A.wuv (ix3 k h ⟨l.val, hl⟩) else 0

/-! ## The results -/

/-- The batch and the position of a row of tokens; the head and the lane of a column. -/
def batch (r : Fin 65536) : Fin 16 := ⟨r.val / 4096, by omega⟩
def pos (r : Fin 65536) : Fin 4096 := ⟨r.val % 4096, by omega⟩
def head (j : Fin 1024) : Fin 8 := ⟨j.val / 128, by omega⟩
def lane (j : Fin 1024) : Fin 128 := ⟨j.val % 128, by omega⟩

def outLat : Vec Ideal ⟨2, ![65536, 256]⟩ .f32 := fun i => lat A (batch (i 0)) (pos (i 0)) (i 1)
def outKr : Vec Ideal ⟨2, ![65536, 32]⟩ .f32 := fun i => kr A (batch (i 0)) (pos (i 0)) (i 1)
def outQ : Vec Ideal ⟨2, ![65536, 1024]⟩ .bf16 := fun i => qhead A (batch (i 0)) (pos (i 0)) (head (i 1)) (lane (i 1))
def outK : Vec Ideal ⟨2, ![65536, 1024]⟩ .bf16 := fun i => khead A (batch (i 0)) (pos (i 0)) (head (i 1)) (lane (i 1))
def outV : Vec Ideal ⟨2, ![65536, 1024]⟩ .bf16 := fun i => vhead A (batch (i 0)) (pos (i 0)) (head (i 1)) (lane (i 1))
def outG : Vec Ideal ⟨2, ![65536, 512]⟩ .f32 := fun i => proj A (batch (i 0)) (pos (i 0)) ⟨672 + (i 1).val, by have : (i 1).val < 512 := (i 1).isLt; omega⟩
def outU : Vec Ideal ⟨2, ![65536, 512]⟩ .f32 := fun i => proj A (batch (i 0)) (pos (i 0)) ⟨1184 + (i 1).val, by have : (i 1).val < 512 := (i 1).isLt; omega⟩
def outS : Vec Ideal ⟨2, ![65536, 512]⟩ .f32 := fun i => proj A (batch (i 0)) (pos (i 0)) ⟨1696 + (i 1).val, by have : (i 1).val < 512 := (i 1).isLt; omega⟩

end Cert.Proof.In

end
-- ==== Proof.InPay.lean ====
/-
  WHAT THE INPUT PROJECTIONS' KERNEL COMPUTES ON A BLOCK, entry by entry from what it loads.
-/
module

public import proofs.«01_k».proof.Proof.InMath
public import proofs.«01_k».proof.Proof.Gen.KernelInIdeal.Skeleton
public import Idealize.ShloMosaic.Lib.Pointwise

@[expose] public section

set_option maxRecDepth 16384

noncomputable section

namespace Cert.Proof.In

open Cert.KernelInIdeal Cert.KernelInIdeal.Gen
open Idealize.ShloMosaic Idealize.ShloMosaic.TcCoe Idealize.ShloMosaic.Tactic

/-! ## Normalised rows and products -/

theorem pay2_apply (x : Vec Ideal S256x1024 .f32) (g : Vec Ideal S1x1024 .f32) (p : Fin 256) (k : Fin 1024) :
    k0_pay2 (F := Ideal) x g (ix2 p k) = x (ix2 p k) * inv 0x44800000#32 (fun j : Fin 1024 => x (ix2 p j)) * g (ix2 0 k) := by
  unfold inv
  pointwise [k0_pay2]

theorem pay3_apply (x : Vec Ideal S256x1024 .f32) (g : Vec Ideal S1x1024 .f32) (w : Vec Ideal S1024x384 .bf16) (p : Fin 256) (j : Fin 384) :
    k0_pay3 (F := Ideal) x g w (ix2 p j) = ∑ k : Fin 1024, k0_pay2 (F := Ideal) x g (ix2 p k) * w (ix2 k j) := by
  unfold k0_pay3
  pointwise []

theorem pay4_apply (x : Vec Ideal S256x1024 .f32) (g : Vec Ideal S1x1024 .f32) (w : Vec Ideal S1024x256 .bf16) (p : Fin 256) (j : Fin 256) :
    k0_pay4 (F := Ideal) x g w (ix2 p j) = ∑ k : Fin 1024, k0_pay2 (F := Ideal) x g (ix2 p k) * w (ix2 k j) := by
  unfold k0_pay4
  pointwise []

theorem pay5_apply (x : Vec Ideal S256x1024 .f32) (g : Vec Ideal S1x1024 .f32) (w : Vec Ideal S1024x128 .bf16) (p : Fin 256) (j : Fin 128) :
    k0_pay5 (F := Ideal) x g w (ix2 p j) = ∑ k : Fin 1024, k0_pay2 (F := Ideal) x g (ix2 p k) * w (ix2 k j) := by
  unfold k0_pay5
  pointwise []

theorem pay6_apply (x : Vec Ideal S256x1024 .f32) (g : Vec Ideal S1x1024 .f32) (w : Vec Ideal S1024x512 .bf16) (p : Fin 256) (j : Fin 512) :
    k0_pay6 (F := Ideal) x g w (ix2 p j) = ∑ k : Fin 1024, k0_pay2 (F := Ideal) x g (ix2 p k) * w (ix2 k j) := by
  unfold k0_pay6
  pointwise []

theorem pay7_apply (x : Vec Ideal S256x1024 .f32) (g : Vec Ideal S1x1024 .f32) (w : Vec Ideal S1024x512 .bf16) (p : Fin 256) (j : Fin 512) :
    k0_pay7 (F := Ideal) x g w (ix2 p j) = ∑ k : Fin 1024, k0_pay2 (F := Ideal) x g (ix2 p k) * w (ix2 k j) := by
  unfold k0_pay7
  pointwise []

theorem pay8_apply (v : Vec Ideal S256x1024 .bf16) (w : Vec Ideal S1024x512 .bf16) (p : Fin 256) (j : Fin 512) :
    k0_pay8 (F := Ideal) v w (ix2 p j) = ∑ k : Fin 1024, v (ix2 p k) * w (ix2 k j) := by
  pointwise [k0_pay8]

theorem pay9_apply (v : Vec Ideal S256x256 .f32) (g : Vec Ideal S1x256 .f32) (p : Fin 256) (k : Fin 256) :
    k0_pay9 (F := Ideal) v g (ix2 p k) = v (ix2 p k) * inv 0x43800000#32 (fun j : Fin 256 => v (ix2 p j)) * g (ix2 0 k) := by
  unfold inv
  pointwise [k0_pay9]

theorem pay10_apply (v : Vec Ideal S256x256 .f32) (g : Vec Ideal S1x256 .f32) (p : Fin 256) (k : Fin 256) :
    k0_pay10 (F := Ideal) v g (ix2 p k) = v (ix2 p k) * inv 0x43800000#32 (fun j : Fin 256 => v (ix2 p j)) * g (ix2 0 k) := by
  unfold inv
  pointwise [k0_pay10, k0_pay9]

theorem pay15_apply (v : Vec Ideal S256x384 .f32) (g : Vec Ideal S1x384 .f32) (p : Fin 256) (k : Fin 384) :
    k0_pay15 (F := Ideal) v g (ix2 p k) = v (ix2 p k) * inv 0x43C00000#32 (fun j : Fin 384 => v (ix2 p j)) * g (ix2 0 k) := by
  unfold inv
  pointwise [k0_pay15]

theorem pay1_apply (v : Vec Ideal S256x256 .bf16) (w : Vec Ideal S256x1024 .bf16) (p : Fin 256) (j : Fin 1024) :
    k0_pay1 (F := Ideal) v w (ix2 p j) = ∑ k : Fin 256, v (ix2 p k) * w (ix2 k j) := by
  pointwise [k0_pay1]

/-! ## The rotary key -/

theorem select_low (j : Fin 128) (a : EReal) :
    Scalar.select (IntOp.cmpi CmpIPredicate.slt (BitVec.ofNat 32 j.val) 32#32) a 0 = if j.val < 32 then a else 0 := by
  have h : ∀ j : Fin 128, IntOp.cmpi CmpIPredicate.slt (BitVec.ofNat 32 j.val) 32#32 = if j.val < 32 then 1#1 else 0#1 := by decide +kernel
  rw [h j]
  by_cases hj : j.val < 32
  · rw [if_pos hj, if_pos hj]; rfl
  · rw [if_neg hj, if_neg hj]; rfl

theorem pay11_apply (v : Vec Ideal S256x128 .f32) (p : Fin 256) :
    k0_pay11 (F := Ideal) v (ix2 p 0) = inv 0x42000000#32 fun i : Fin 32 => v (ix2 p ⟨i.val, by omega⟩) := by
  have h : k0_pay11 (F := Ideal) v (ix2 p 0) = Ideal.rsqrt ((∑ j : Fin 128,
      Scalar.select (IntOp.cmpi CmpIPredicate.slt (BitVec.ofNat 32 j.val) 32#32) (v (ix2 p j) * v (ix2 p j)) 0) * Ideal.ofBits .f32 0x3D000000#32 + eps) := by
    pointwise [k0_pay11]
  rw [h]
  unfold inv
  rw [word_32, Ideal.div_coe (by norm_num), ← word_32th,
    sum_window (fun j : Fin 128 => Scalar.select (IntOp.cmpi CmpIPredicate.slt (BitVec.ofNat 32 j.val) 32#32) (v (ix2 p j) * v (ix2 p j)) 0) 0 32 (by omega)
      fun k hk => by rw [select_low, if_neg fun h => hk ⟨Nat.zero_le _, by omega⟩]]
  refine congrArg (fun s => Ideal.rsqrt (s * Ideal.ofBits .f32 0x3D000000#32 + eps)) (Finset.sum_congr rfl fun k _ => ?_)
  have e : (⟨0 + k.val, by omega⟩ : Fin 128) = ⟨k.val, by omega⟩ := Fin.ext (Nat.zero_add _)
  rw [e, select_low, if_pos k.isLt]

theorem pay12_apply (v : Vec Ideal S256x128 .f32) (r : Vec Ideal S256x1 .f32) (ck : Vec Ideal S256x128 .f32) (gk : Vec Ideal S1x128 .f32)
    (sk : Vec Ideal S256x128 .f32) (gs : Vec Ideal S1x128 .f32) (p : Fin 256) (j : Fin 128) :
    k0_pay12 (F := Ideal) v r ck gk sk gs (ix2 p j)
      = r (ix2 p 0) * (v (ix2 p j) * (ck (ix2 p j) * gk (ix2 0 j))
          + v (ix2 p ⟨(j.val + 128 - 96) % 128, Nat.mod_lt _ (by decide)⟩) * (sk (ix2 p j) * gs (ix2 0 j))) := by
  pointwise [k0_pay12]

theorem pay13_apply (v : Vec Ideal S256x128 .f32) (r : Vec Ideal S256x1 .f32) (ck : Vec Ideal S256x128 .f32) (gk : Vec Ideal S1x128 .f32)
    (sk : Vec Ideal S256x128 .f32) (gs : Vec Ideal S1x128 .f32) (p : Fin 256) (j : Fin 32) :
    k0_pay13 (F := Ideal) v r ck gk sk gs (ix2 p j) = k0_pay12 (F := Ideal) v r ck gk sk gs (ix2 p ⟨j.val, by omega⟩) := by
  unfold k0_pay13
  pointwise []

theorem pay14_apply (v : Vec Ideal S256x128 .f32) (r : Vec Ideal S256x1 .f32) (ck : Vec Ideal S256x128 .f32) (gk : Vec Ideal S1x128 .f32)
    (sk : Vec Ideal S256x128 .f32) (gs : Vec Ideal S1x128 .f32) (p : Fin 256) (j : Fin 128) :
    k0_pay14 (F := Ideal) v r ck gk sk gs (ix2 p j)
      = k0_pay12 (F := Ideal) v r ck gk sk gs (ix2 p ⟨(j.val + 128 - 64) % 128, Nat.mod_lt _ (by decide)⟩) := by
  unfold k0_pay14
  pointwise []

/-! ## The factors of the rotation -/

theorem pay18_apply (ct : Vec Ideal S256x128 .f32) (g : Vec Ideal S1x128 .f32) (p : Fin 256) (l : Fin 128) :
    k0_pay18 (F := Ideal) (k0_pay16 ct) (k0_pay17 g) (Scalar.ofBits .f32 0x3DD105EC#32) (ix2 p l) = ct (ix2 p l) * (g (ix2 0 l) * scale) := by
  pointwise [k0_pay18, k0_pay16, k0_pay17]

theorem pay19_apply (st : Vec Ideal S256x128 .f32) (g : Vec Ideal S1x128 .f32) (p : Fin 256) (l : Fin 128) :
    k0_pay19 (F := Ideal) st g (ix2 p l) = st (ix2 p l) * (g (ix2 0 l) * scale) := by
  pointwise [k0_pay19]

/-! ## Two heads' products, each lane with its factor -/

theorem pay20_apply (v : Vec Ideal S256x384 .bf16) (w : Vec Ideal S384x256 .bf16) (e : Vec Ideal S256x256 .bf16) (p : Fin 256) (l : Fin 256) :
    k0_pay20 (F := Ideal) v w e (ix2 p l)
      = (∑ k : Fin 384, v (ix2 p k) * w (ix2 k l))
        * Ideal.rsqrt ((∑ j : Fin 256, (∑ k : Fin 384, v (ix2 p k) * w (ix2 k j)) * (∑ k : Fin 384, v (ix2 p k) * w (ix2 k j)) * e (ix2 j l)) + eps) := by
  pointwise [k0_pay20]

theorem pay21_apply (v : Vec Ideal S256x256 .bf16) (w : Vec Ideal S256x256 .bf16) (e : Vec Ideal S256x256 .bf16) (p : Fin 256) (l : Fin 256) :
    k0_pay21 (F := Ideal) v w e (ix2 p l)
      = (∑ k : Fin 256, v (ix2 p k) * w (ix2 k l))
        * Ideal.rsqrt ((∑ j : Fin 256, (∑ k : Fin 256, v (ix2 p k) * w (ix2 k j)) * (∑ k : Fin 256, v (ix2 p k) * w (ix2 k j)) * e (ix2 j l)) + eps) := by
  pointwise [k0_pay21]

/-! ## One head of the two -/

theorem pay48_apply (ct st : Vec Ideal S256x128 .f32) (n : Vec Ideal S256x256 .f32) (p : Fin 256) (l : Fin 128) :
    k0_pay48 (F := Ideal) ct st n (ix2 p l)
      = n (ix2 p ⟨l.val, by omega⟩) * ct (ix2 p l) + n (ix2 p ⟨(l.val + 128 - 96) % 128, by omega⟩) * st (ix2 p l) := by
  pointwise [k0_pay48]

theorem pay50_apply (ct st : Vec Ideal S256x128 .f32) (n : Vec Ideal S256x256 .f32) (p : Fin 256) (l : Fin 128) :
    k0_pay50 (F := Ideal) ct st n (ix2 p l)
      = n (ix2 p ⟨128 + l.val, by omega⟩) * ct (ix2 p l) + n (ix2 p ⟨128 + (l.val + 128 - 96) % 128, by omega⟩) * st (ix2 p l) := by
  pointwise [k0_pay50]

theorem pay26_apply (kr : Vec Ideal S256x128 .f32) (n : Vec Ideal S256x256 .f32) (g : Vec Ideal S1x128 .f32) (p : Fin 256) (l : Fin 128) :
    k0_pay26 (F := Ideal) kr n g (ix2 p l) = n (ix2 p ⟨l.val, by omega⟩) * g (ix2 0 l) + kr (ix2 p l) := by
  pointwise [k0_pay26]

theorem pay28_apply (kr : Vec Ideal S256x128 .f32) (n : Vec Ideal S256x256 .f32) (g : Vec Ideal S1x128 .f32) (p : Fin 256) (l : Fin 128) :
    k0_pay28 (F := Ideal) kr n g (ix2 p l) = n (ix2 p ⟨128 + l.val, by omega⟩) * g (ix2 0 l) + kr (ix2 p l) := by
  pointwise [k0_pay28]

end Cert.Proof.In

end
-- ==== Proof.InHead.lean ====
/-
  ONE HEAD'S LANES, from a row of two heads' products: the mean of squares taken by a matrix, the rotation by a roll of the lanes.
-/
module

public import proofs.«01_k».proof.Proof.InMath

@[expose] public section

set_option maxRecDepth 16384

noncomputable section

namespace Cert.Proof.In

open Idealize.ShloMosaic Idealize.ShloMosaic.TcCoe

/-- What the matrix of means holds for the head whose lanes begin at `off`. -/
structure Means (e : Fin 256 → Fin 256 → EReal) (off : ℕ) (ho : off = 0 ∨ off = 128) : Prop where
  nope : ∀ (k : Fin 256) (d : Fin 64), e k ⟨off + d.val, by omega⟩ = if off ≤ k.val ∧ k.val < off + 64 then Ideal.ofBits .f32 0x3C800000#32 else 0
  rope : ∀ (k : Fin 256) (d : Fin 64), e k ⟨off + (64 + d.val), by omega⟩
    = if off + 64 ≤ k.val ∧ k.val < off + 64 + 32 then Ideal.ofBits .f32 0x3D000000#32 else 0

/-- A product times its factor. -/
def normed (a : Fin 256 → EReal) (e : Fin 256 → Fin 256 → EReal) (l : Fin 256) : EReal :=
  a l * Ideal.rsqrt ((∑ j, a j * a j * e j l) + eps)

variable {e : Fin 256 → Fin 256 → EReal} {off : ℕ} {ho : off = 0 ∨ off = 128} (he : Means e off ho) (a : Fin 256 → EReal)
include he

theorem normed_nope (d : Fin 64) : normed a e ⟨off + d.val, by omega⟩
    = a ⟨off + d.val, by omega⟩ * inv 0x42800000#32 fun k : Fin 64 => a ⟨off + k.val, by omega⟩ := by
  unfold normed
  rw [inv_of_weights 0x42800000#32 0x3C800000#32 64 (by norm_num) word_64 word_64th off (by omega) a _ (fun k => he.nope k d)]

theorem normed_rope (d : Fin 64) : normed a e ⟨off + (64 + d.val), by omega⟩
    = a ⟨off + (64 + d.val), by omega⟩ * inv 0x42000000#32 fun k : Fin 32 => a ⟨off + (64 + k.val), by omega⟩ := by
  unfold normed
  rw [inv_of_weights 0x42000000#32 0x3D000000#32 32 (by norm_num) word_32 word_32th (off + 64) (by omega) a _ (fun k => he.rope k d)]
  refine congrArg (fun f : Fin 32 → EReal => _ * inv 0x42000000#32 f) (funext fun k => congrArg a (Fin.ext ?_))
  simp only; omega

variable (A : Args) (b : Fin 16) (p : Fin 4096) (h : Fin 8)

/-- A query's head. -/
theorem query_head (ct st : Fin 128 → EReal)
    (alow : ∀ (l : ℕ) (hl : l < 96), a ⟨off + l, by omega⟩ = qcol A b p h l hl)
    (aswap : ∀ i : Fin 32, a ⟨off + (96 + i.val), by omega⟩ = qcol A b p h (64 + (swap i).val) (by omega))
    (cn : ∀ d : Fin 64, ct ⟨d.val, by omega⟩ = 1 * (A.gqn (ix1 d) * scale))
    (cr : ∀ i : Fin 32, ct ⟨64 + i.val, by omega⟩ = cos2 (cosRow A p) i * (A.gqr (ix1 i) * scale))
    (cp : ∀ i : Fin 32, ct ⟨96 + i.val, by omega⟩ = 0)
    (sn : ∀ d : Fin 64, st ⟨d.val, by omega⟩ = 0)
    (sr : ∀ i : Fin 32, st ⟨64 + i.val, by omega⟩ = sin2 (sinRow A p) i * (A.gqr (ix1 (swap i)) * scale))
    (sp : ∀ i : Fin 32, st ⟨96 + i.val, by omega⟩ = 0) (l : Fin 128) :
    normed a e ⟨off + l.val, by omega⟩ * ct l + normed a e ⟨off + (l.val + 128 - 96) % 128, by omega⟩ * st l = qhead A b p h l := by
  unfold qhead
  by_cases h64 : l.val < 64
  · rw [dif_pos h64]
    have e1 := normed_nope he a ⟨l.val, h64⟩
    have e2 := cn ⟨l.val, h64⟩
    have e3 := sn ⟨l.val, h64⟩
    have ea : (fun k : Fin 64 => a ⟨off + k.val, by omega⟩) = qnope A b p h := funext fun k => alow k.val (by omega)
    rw [ea] at e1
    rw [show normed a e ⟨off + l.val, by omega⟩ = _ from e1, show ct l = _ from e2, show st l = 0 from e3, mul_zero, add_zero, one_mul,
      show a ⟨off + l.val, by omega⟩ = qnope A b p h ⟨l.val, h64⟩ from alow l.val (by omega)]
    exact (mul_assoc _ _ _).symm
  · rw [dif_neg h64]
    by_cases h96 : l.val < 96
    · rw [dif_pos h96]
      obtain ⟨i, hi⟩ : ∃ i : Fin 32, l = ⟨64 + i.val, Nat.lt_of_lt_of_le (Nat.add_lt_add_left i.isLt 64) (by decide)⟩ := ⟨⟨l.val - 64, by omega⟩, Fin.ext (by simp only; omega)⟩
      subst hi
      have ei : (⟨64 + i.val - 64, by omega⟩ : Fin 32) = i := Fin.ext (by simp only; omega)
      have es : (⟨off + (64 + i.val + 128 - 96) % 128, by omega⟩ : Fin 256) = ⟨off + (64 + (32 + i.val)), by omega⟩ := Fin.ext (by simp only; omega)
      have e1 := normed_rope he a ⟨i.val, by omega⟩
      have e2 := normed_rope he a ⟨32 + i.val, by omega⟩
      have ea : (fun k : Fin 32 => a ⟨off + (64 + k.val), by omega⟩) = qrope A b p h := funext fun k => alow (64 + k.val) (by omega)
      have eb : a ⟨off + (64 + (32 + i.val)), by omega⟩ = qrope A b p h (swap i) :=
        (congrArg a (Fin.ext (by simp only; omega))).trans (aswap i)
      rw [ea] at e1 e2
      simp only [es, ei]
      rw [show normed a e ⟨off + (64 + i.val), by omega⟩ = _ from e1, show normed a e ⟨off + (64 + (32 + i.val)), by omega⟩ = _ from e2, cr, sr,
        show a ⟨off + (64 + i.val), by omega⟩ = qrope A b p h i from alow (64 + i.val) (by omega), eb]
      exact rope_scaled _ _ scale_real.1 scale_real.2 (qrope A b p h) (fun j => A.gqr (ix1 j)) _ _ i
    · rw [dif_neg h96]
      obtain ⟨i, hi⟩ : ∃ i : Fin 32, l = ⟨96 + i.val, Nat.lt_of_lt_of_le (Nat.add_lt_add_left i.isLt 96) (by decide)⟩ := ⟨⟨l.val - 96, by omega⟩, Fin.ext (by simp only; omega)⟩
      subst hi
      rw [cp, sp, mul_zero, mul_zero, add_zero]

/-- A key's head: the rotary key is added in its lanes. -/
theorem key_head (g r : Fin 128 → EReal)
    (alow : ∀ d : Fin 64, a ⟨off + d.val, by omega⟩ = kcol A b p h d)
    (apad : ∀ d : Fin 64, a ⟨off + (64 + d.val), by omega⟩ = 0)
    (gn : ∀ d : Fin 64, g ⟨d.val, by omega⟩ = A.gkn (ix1 d))
    (rr : ∀ i : Fin 32, r ⟨64 + i.val, by omega⟩ = kr A b p i)
    (r0 : ∀ l : Fin 128, ¬(64 ≤ l.val ∧ l.val < 96) → r l = 0) (l : Fin 128) :
    normed a e ⟨off + l.val, by omega⟩ * g l + r l = khead A b p h l := by
  unfold khead
  by_cases h64 : l.val < 64
  · rw [dif_pos h64, r0 l (by omega), add_zero]
    have e1 := normed_nope he a ⟨l.val, h64⟩
    have e2 := gn ⟨l.val, h64⟩
    have ea : (fun k : Fin 64 => a ⟨off + k.val, by omega⟩) = kcol A b p h := funext alow
    rw [ea] at e1
    rw [show normed a e ⟨off + l.val, by omega⟩ = _ from e1, show g l = _ from e2,
      show a ⟨off + l.val, by omega⟩ = kcol A b p h ⟨l.val, h64⟩ from alow ⟨l.val, h64⟩]
  · have e0 : normed a e ⟨off + l.val, by omega⟩ = 0 := by
      unfold normed
      rw [show a ⟨off + l.val, by omega⟩ = 0 from
        (congrArg a (Fin.ext (by simp only; omega))).trans (apad ⟨l.val - 64, by omega⟩), zero_mul]
    rw [dif_neg h64, e0, zero_mul, zero_add]
    by_cases h96 : l.val < 96
    · rw [dif_pos h96]
      exact (congrArg r (Fin.ext (by simp only; omega))).trans (rr ⟨l.val - 64, by omega⟩)
    · rw [dif_neg h96, r0 l (by omega)]

end Cert.Proof.In

end
-- ==== Proof.InBlock.lean ====
/-
  THE INPUT PROJECTIONS ON ONE TOKEN: what the kernel's body leaves in a row of each output block, from what the input blocks hold.
-/
module

public import proofs.«01_k».proof.Proof.InPay
public import proofs.«01_k».proof.Proof.InHead
public import proofs.«01_k».proof.Proof.InFrameIdeal
public import Idealize.ShloMosaic.Lib.Pipeline.ValueKit

@[expose] public section

set_option maxRecDepth 16384

noncomputable section

namespace Cert.Proof.In

open Cert.KernelInIdeal Cert.KernelInIdeal.Gen
open Idealize.ShloMosaic Idealize.ShloMosaic.TcCoe Idealize.ShloMosaic.Tactic

/-- The input blocks of a grid point. -/
structure Blocks where
  x : Vec Ideal S256x1024 .f32
  ng : Vec Ideal S1x1024 .f32
  win : Vec Ideal S1024x2304 .bf16
  gql : Vec Ideal S1x384 .f32
  wuq : Vec Ideal S384x1024 .bf16
  gkv : Vec Ideal S1x256 .f32
  wuk : Vec Ideal S256x1024 .bf16
  wuv : Vec Ideal S256x1024 .bf16
  e : Vec Ideal S256x256 .bf16
  cq : Vec Ideal S256x128 .f32
  sq : Vec Ideal S256x128 .f32
  ck : Vec Ideal S256x128 .f32
  sk : Vec Ideal S256x128 .f32
  gq : Vec Ideal S1x128 .f32
  gqs : Vec Ideal S1x128 .f32
  gk : Vec Ideal S1x128 .f32
  gks : Vec Ideal S1x128 .f32
  gkn : Vec Ideal S1x128 .f32

/-- What they hold for the token at batch `b` and position `q`, in row `p`. -/
structure Reads (A : Args) (b : Fin 16) (q : Fin 4096) (p : Fin 256) (B : Blocks) : Prop where
  x : ∀ k : Fin 1024, B.x (ix2 p k) = A.x (ix3 b q k)
  ng : ∀ k : Fin 1024, B.ng (ix2 0 k) = A.ng (ix1 k)
  win_low : ∀ (k : Fin 1024) (j : Fin 640), B.win (ix2 k ⟨j.val, by omega⟩) = A.win (ix2 k ⟨j.val, by omega⟩)
  win_key : ∀ (k : Fin 1024) (i : Fin 32), B.win (ix2 k ⟨640 + i.val, by omega⟩) = A.win (ix2 k ⟨640 + i.val, by omega⟩)
  win_swap : ∀ (k : Fin 1024) (i : Fin 32), B.win (ix2 k ⟨672 + i.val, by omega⟩) = A.win (ix2 k ⟨640 + (swap i).val, by omega⟩)
  win_high : ∀ (k : Fin 1024) (j : Fin 1536), B.win (ix2 k ⟨768 + j.val, by omega⟩) = A.win (ix2 k ⟨672 + j.val, by omega⟩)
  gql : ∀ k : Fin 384, B.gql (ix2 0 k) = A.gql (ix1 k)
  wuq_low : ∀ (k : Fin 384) (h : Fin 8) (l : ℕ) (_ : l < 96), B.wuq (ix2 k ⟨128 * h.val + l, by omega⟩) = A.wuq (ix2 k ⟨96 * h.val + l, by omega⟩)
  wuq_swap : ∀ (k : Fin 384) (h : Fin 8) (i : Fin 32),
    B.wuq (ix2 k ⟨128 * h.val + (96 + i.val), by omega⟩) = A.wuq (ix2 k ⟨96 * h.val + (64 + (swap i).val), by omega⟩)
  gkv : ∀ k : Fin 256, B.gkv (ix2 0 k) = A.gkv (ix1 k)
  wuk_low : ∀ (k : Fin 256) (h : Fin 8) (d : Fin 64), B.wuk (ix2 k ⟨128 * h.val + d.val, by omega⟩) = A.wuk (ix3 k h d)
  wuk_pad : ∀ (k : Fin 256) (h : Fin 8) (d : Fin 64), B.wuk (ix2 k ⟨128 * h.val + (64 + d.val), by omega⟩) = (0 : EReal)
  wuv_low : ∀ (k : Fin 256) (h : Fin 8) (d : Fin 64), B.wuv (ix2 k ⟨128 * h.val + d.val, by omega⟩) = A.wuv (ix3 k h d)
  wuv_pad : ∀ (k : Fin 256) (h : Fin 8) (d : Fin 64), B.wuv (ix2 k ⟨128 * h.val + (64 + d.val), by omega⟩) = (0 : EReal)
  e : ∀ (off : ℕ) (ho : off = 0 ∨ off = 128), Means (fun k l => B.e (ix2 k l)) off ho
  cq_nope : ∀ d : Fin 64, B.cq (ix2 p ⟨d.val, by omega⟩) = (1 : EReal)
  cq_rope : ∀ i : Fin 32, B.cq (ix2 p ⟨64 + i.val, by omega⟩) = cos2 (cosRow A q) i
  cq_pad : ∀ i : Fin 32, B.cq (ix2 p ⟨96 + i.val, by omega⟩) = (0 : EReal)
  sq_nope : ∀ d : Fin 64, B.sq (ix2 p ⟨d.val, by omega⟩) = (0 : EReal)
  sq_rope : ∀ i : Fin 32, B.sq (ix2 p ⟨64 + i.val, by omega⟩) = sin2 (sinRow A q) i
  sq_pad : ∀ i : Fin 32, B.sq (ix2 p ⟨96 + i.val, by omega⟩) = (0 : EReal)
  ck_rope : ∀ i : Fin 32, B.ck (ix2 p ⟨i.val, by omega⟩) = cos2 (cosRow A q) i
  ck_pad : ∀ (j : ℕ) (_ : 32 ≤ j) (h1 : j < 128), B.ck (ix2 p ⟨j, h1⟩) = (0 : EReal)
  sk_rope : ∀ i : Fin 32, B.sk (ix2 p ⟨i.val, by omega⟩) = sin2 (sinRow A q) i
  sk_pad : ∀ (j : ℕ) (_ : 32 ≤ j) (h1 : j < 128), B.sk (ix2 p ⟨j, h1⟩) = (0 : EReal)
  gq_nope : ∀ d : Fin 64, B.gq (ix2 0 ⟨d.val, by omega⟩) = A.gqn (ix1 d)
  gq_rope : ∀ i : Fin 32, B.gq (ix2 0 ⟨64 + i.val, by omega⟩) = A.gqr (ix1 i)
  gqs_rope : ∀ i : Fin 32, B.gqs (ix2 0 ⟨64 + i.val, by omega⟩) = A.gqr (ix1 (swap i))
  gk_rope : ∀ i : Fin 32, B.gk (ix2 0 ⟨i.val, by omega⟩) = A.gkr (ix1 i)
  gks_rope : ∀ i : Fin 32, B.gks (ix2 0 ⟨i.val, by omega⟩) = A.gkr (ix1 (swap i))
  gkn_nope : ∀ d : Fin 64, B.gkn (ix2 0 ⟨d.val, by omega⟩) = A.gkn (ix1 d)

/-! ## Loads -/

theorem ld_r0_0 {ty : EltTy} (x : Vec Ideal S256x1024 ty) : View.ld x r0_0 = x := View.ld_unit_lit _ _ (by decide)
theorem ld_r0_1 {ty : EltTy} (x : Vec Ideal S1x1024 ty) : View.ld x r0_1 = x := View.ld_unit_lit _ _ (by decide)
theorem ld_r0_9 {ty : EltTy} (x : Vec Ideal S1x256 ty) : View.ld x r0_9 = x := View.ld_unit_lit _ _ (by decide)
theorem ld_r0_10 {ty : EltTy} (x : Vec Ideal S256x256 ty) : View.ld x r0_10 = x := View.ld_unit_lit _ _ (by decide)
theorem ld_r0_11 {ty : EltTy} (x : Vec Ideal S256x128 ty) : View.ld x r0_11 = x := View.ld_unit_lit _ _ (by decide)
theorem ld_r0_12 {ty : EltTy} (x : Vec Ideal S1x128 ty) : View.ld x r0_12 = x := View.ld_unit_lit _ _ (by decide)
theorem ld_r0_14 {ty : EltTy} (x : Vec Ideal S1x384 ty) : View.ld x r0_14 = x := View.ld_unit_lit _ _ (by decide)

/-- A load of a window of columns. -/
theorem ld_cols {ty : EltTy} {n0 n1 w o : ℕ} (X : Vec Ideal ⟨2, ![n0, n1]⟩ ty) (inb) (k : Fin n0) (j : Fin w) (hj : o + j.val < n1) :
    View.ld X (Rect.unit (s := ⟨2, ![n0, n1]⟩) ![0, o] ![n0, w] inb) (ix2 k j : (⟨2, ![n0, w]⟩ : Shape).Idx) = X (ix2 k ⟨o + j.val, hj⟩) :=
  View.ld_unit_apply_of _ _ _ _ _ _ fun a => by
    match a with
    | ⟨0, _⟩ => exact (Nat.zero_add _).symm
    | ⟨1, _⟩ => rfl

variable {A : Args} {b : Fin 16} {q : Fin 4096} {p : Fin 256} {B : Blocks} (R : Reads A b q p B)
include R

/-! ## The first product -/

theorem hid_at (k : Fin 1024) : k0_pay2 (F := Ideal) B.x B.ng (ix2 p k) = hid A b q k := by
  rw [pay2_apply]
  simp only [R.x, R.ng]
  rfl

theorem qlat_at (j : Fin 384) : k0_pay3 (F := Ideal) B.x B.ng (View.ld B.win r0_2) (ix2 p j) = qlat A b q j := by
  rw [pay3_apply]
  unfold qlat proj
  refine Finset.sum_congr rfl fun k _ => congrArg₂ (· * ·) (hid_at R k) ?_
  refine (ld_cols B.win _ k j (by omega)).trans ?_
  simp only [Nat.zero_add]
  exact R.win_low k ⟨j.val, by omega⟩

theorem ckv_at (j : Fin 256) : k0_pay4 (F := Ideal) B.x B.ng (View.ld B.win r0_3) (ix2 p j) = ckv A b q j := by
  rw [pay4_apply]
  unfold ckv proj
  refine Finset.sum_congr rfl fun k _ => congrArg₂ (· * ·) (hid_at R k) ?_
  exact (ld_cols B.win _ k j (by omega)).trans (R.win_low k ⟨384 + j.val, by omega⟩)

theorem kraw_at (i : Fin 32) : k0_pay5 (F := Ideal) B.x B.ng (View.ld B.win r0_4) (ix2 p ⟨i.val, by omega⟩) = kraw A b q i := by
  rw [pay5_apply]
  unfold kraw proj
  refine Finset.sum_congr rfl fun k _ => congrArg₂ (· * ·) (hid_at R k) ?_
  exact (ld_cols B.win _ k (⟨i.val, by omega⟩ : Fin 128) (by simp only; omega)).trans (R.win_key k i)

theorem kswap_at (i : Fin 32) : k0_pay5 (F := Ideal) B.x B.ng (View.ld B.win r0_4) (ix2 p ⟨32 + i.val, by omega⟩) = kraw A b q (swap i) := by
  rw [pay5_apply]
  unfold kraw proj
  refine Finset.sum_congr rfl fun k _ => congrArg₂ (· * ·) (hid_at R k) ?_
  refine (ld_cols B.win _ k (⟨32 + i.val, by omega⟩ : Fin 128) (by simp only; omega)).trans (Eq.trans ?_ (R.win_swap k i))
  exact congrArg (fun j => B.win (ix2 k j)) (Fin.ext (by simp only; omega))

theorem gate_at (j : Fin 512) : k0_pay6 (F := Ideal) B.x B.ng (View.ld B.win r0_5) (ix2 p j) = proj A b q ⟨672 + j.val, by omega⟩ := by
  rw [pay6_apply]
  refine Finset.sum_congr rfl fun k _ => congrArg₂ (· * ·) (hid_at R k) ?_
  exact (ld_cols B.win _ k j (by omega)).trans (R.win_high k ⟨j.val, by omega⟩)

theorem value_at (j : Fin 512) : k0_pay7 (F := Ideal) B.x B.ng (View.ld B.win r0_7) (ix2 p j) = proj A b q ⟨1184 + j.val, by omega⟩ := by
  rw [pay7_apply]
  refine Finset.sum_congr rfl fun k _ => congrArg₂ (· * ·) (hid_at R k) ?_
  refine (ld_cols B.win _ k j (by omega)).trans (Eq.trans ?_ ((R.win_high k ⟨512 + j.val, by omega⟩).trans ?_))
  · exact congrArg (fun j => B.win (ix2 k j)) (Fin.ext (by simp only; omega))
  · exact congrArg (fun j => A.win (ix2 k j)) (Fin.ext (by simp only; omega))

theorem state_at (j : Fin 512) : k0_pay8 (F := Ideal) (k0_pay2 B.x B.ng) (View.ld B.win r0_8) (ix2 p j) = proj A b q ⟨1696 + j.val, by omega⟩ := by
  rw [pay8_apply]
  refine Finset.sum_congr rfl fun k _ => congrArg₂ (· * ·) (hid_at R k) ?_
  refine (ld_cols B.win _ k j (by omega)).trans (Eq.trans ?_ ((R.win_high k ⟨1024 + j.val, by omega⟩).trans ?_))
  · exact congrArg (fun j => B.win (ix2 k j)) (Fin.ext (by simp only; omega))
  · exact congrArg (fun j => A.win (ix2 k j)) (Fin.ext (by simp only; omega))

/-! ## The values the heads share -/

theorem ckv_eq (j : Fin 256) : k0_pay52 (F := Ideal) B.x B.ng B.win B.gql B.wuq B.gkv B.wuk B.wuv B.e B.cq B.sq B.ck B.sk B.gq B.gqs B.gk B.gks B.gkn (ix2 p j) = ckv A b q j := by
  unfold k0_pay52
  rw [ld_r0_0, ld_r0_1]
  exact ckv_at R j

theorem lat_at (j : Fin 256) : k0_pay9 (F := Ideal) (k0_pay52 B.x B.ng B.win B.gql B.wuq B.gkv B.wuk B.wuv B.e B.cq B.sq B.ck B.sk B.gq B.gqs B.gk B.gks B.gkn) (View.ld B.gkv r0_9) (ix2 p j) = lat A b q j := by
  rw [pay9_apply, ld_r0_9]
  simp only [ckv_eq R, R.gkv]
  rfl

theorem lat_eq (j : Fin 256) : k0_pay54 (F := Ideal) B.x B.ng B.win B.gql B.wuq B.gkv B.wuk B.wuv B.e B.cq B.sq B.ck B.sk B.gq B.gqs B.gk B.gks B.gkn (ix2 p j) = lat A b q j := by
  unfold k0_pay54
  rw [pay10_apply, ld_r0_9]
  simp only [ckv_eq R, R.gkv]
  rfl

theorem kraw_eq (i : Fin 32) : k0_pay53 (F := Ideal) B.x B.ng B.win B.gql B.wuq B.gkv B.wuk B.wuv B.e B.cq B.sq B.ck B.sk B.gq B.gqs B.gk B.gks B.gkn (ix2 p ⟨i.val, by omega⟩) = kraw A b q i := by
  unfold k0_pay53
  rw [ld_r0_0, ld_r0_1]
  exact kraw_at R i

theorem kswap_eq (i : Fin 32) : k0_pay53 (F := Ideal) B.x B.ng B.win B.gql B.wuq B.gkv B.wuk B.wuv B.e B.cq B.sq B.ck B.sk B.gq B.gqs B.gk B.gks B.gkn (ix2 p ⟨32 + i.val, by omega⟩) = kraw A b q (swap i) := by
  unfold k0_pay53
  rw [ld_r0_0, ld_r0_1]
  exact kswap_at R i

theorem kinv_eq : k0_pay55 (F := Ideal) B.x B.ng B.win B.gql B.wuq B.gkv B.wuk B.wuv B.e B.cq B.sq B.ck B.sk B.gq B.gqs B.gk B.gks B.gkn (ix2 p 0) = inv 0x42000000#32 (kraw A b q) := by
  unfold k0_pay55
  rw [pay11_apply]
  simp only [kraw_eq R]

/-- The rotated key in its first lanes, and zeros. -/
theorem kr_low (i : Fin 32) : k0_pay12 (F := Ideal) (k0_pay53 B.x B.ng B.win B.gql B.wuq B.gkv B.wuk B.wuv B.e B.cq B.sq B.ck B.sk B.gq B.gqs B.gk B.gks B.gkn) (k0_pay55 B.x B.ng B.win B.gql B.wuq B.gkv B.wuk B.wuv B.e B.cq B.sq B.ck B.sk B.gq B.gqs B.gk B.gks B.gkn) B.ck B.gk B.sk B.gks (ix2 p ⟨i.val, by omega⟩) = kr A b q i := by
  rw [pay12_apply, kinv_eq R, kraw_eq R, R.ck_rope, R.gk_rope, R.sk_rope, R.gks_rope]
  have e : (⟨(i.val + 128 - 96) % 128, Nat.mod_lt _ (by decide)⟩ : Fin 128) = ⟨32 + i.val, by omega⟩ := Fin.ext (by simp only; omega)
  simp only [e]
  rw [kswap_eq R]
  exact rope_factor _ (inv_real _ _ (by norm_num) word_32 _).1 (inv_real _ _ (by norm_num) word_32 _).2 (kraw A b q) (fun j => A.gkr (ix1 j)) _ _ i

theorem kr_high (j : ℕ) (h0 : 32 ≤ j) (h1 : j < 128) :
    k0_pay12 (F := Ideal) (k0_pay53 B.x B.ng B.win B.gql B.wuq B.gkv B.wuk B.wuv B.e B.cq B.sq B.ck B.sk B.gq B.gqs B.gk B.gks B.gkn) (k0_pay55 B.x B.ng B.win B.gql B.wuq B.gkv B.wuk B.wuv B.e B.cq B.sq B.ck B.sk B.gq B.gqs B.gk B.gks B.gkn) B.ck B.gk B.sk B.gks (ix2 p ⟨j, h1⟩) = (0 : EReal) := by
  rw [pay12_apply, R.ck_pad j h0 h1, R.sk_pad j h0 h1, zero_mul, zero_mul, mul_zero, mul_zero, add_zero, mul_zero]

theorem krot_rope (i : Fin 32) : k0_pay56 (F := Ideal) B.x B.ng B.win B.gql B.wuq B.gkv B.wuk B.wuv B.e B.cq B.sq B.ck B.sk B.gq B.gqs B.gk B.gks B.gkn (ix2 p ⟨64 + i.val, by omega⟩) = kr A b q i := by
  unfold k0_pay56
  rw [pay14_apply, ld_r0_11, ld_r0_12, ld_r0_11, ld_r0_12]
  have e : (⟨(64 + i.val + 128 - 64) % 128, Nat.mod_lt _ (by decide)⟩ : Fin 128) = ⟨i.val, by omega⟩ := Fin.ext (by simp only; omega)
  simp only [e]
  exact kr_low R i

theorem krot_zero (l : Fin 128) (hl : ¬(64 ≤ l.val ∧ l.val < 96)) : k0_pay56 (F := Ideal) B.x B.ng B.win B.gql B.wuq B.gkv B.wuk B.wuv B.e B.cq B.sq B.ck B.sk B.gq B.gqs B.gk B.gks B.gkn (ix2 p l) = (0 : EReal) := by
  unfold k0_pay56
  rw [pay14_apply, ld_r0_11, ld_r0_12, ld_r0_11, ld_r0_12]
  exact kr_high R _ (by omega) _

theorem qnorm_eq (k : Fin 384) : k0_pay57 (F := Ideal) B.x B.ng B.win B.gql B.wuq B.gkv B.wuk B.wuv B.e B.cq B.sq B.ck B.sk B.gq B.gqs B.gk B.gks B.gkn (ix2 p k) = qnorm A b q k := by
  unfold k0_pay57
  rw [pay15_apply, ld_r0_0, ld_r0_1, ld_r0_14]
  simp only [qlat_at R, R.gql]
  rfl

theorem cosq_eq (l : Fin 128) : k0_pay60 (F := Ideal) B.x B.ng B.win B.gql B.wuq B.gkv B.wuk B.wuv B.e B.cq B.sq B.ck B.sk B.gq B.gqs B.gk B.gks B.gkn (ix2 p l) = B.cq (ix2 p l) * (B.gq (ix2 0 l) * scale) := by
  unfold k0_pay60 k0_pay58 k0_pay59
  rw [pay18_apply, ld_r0_11, ld_r0_12]

theorem sinq_eq (l : Fin 128) : k0_pay61 (F := Ideal) B.x B.ng B.win B.gql B.wuq B.gkv B.wuk B.wuv B.e B.cq B.sq B.ck B.sk B.gq B.gqs B.gk B.gks B.gkn (ix2 p l) = B.sq (ix2 p l) * (B.gqs (ix2 0 l) * scale) := by
  unfold k0_pay61
  rw [pay19_apply, ld_r0_11, ld_r0_12]

/-! ## The heads -/

theorem normed_q (w : Vec Ideal S384x256 .bf16) (l : Fin 256) :
    k0_pay20 (F := Ideal) (k0_pay57 B.x B.ng B.win B.gql B.wuq B.gkv B.wuk B.wuv B.e B.cq B.sq B.ck B.sk B.gq B.gqs B.gk B.gks B.gkn) w (View.ld B.e r0_10) (ix2 p l)
      = normed (fun l => ∑ k : Fin 384, qnorm A b q k * w (ix2 k l)) (fun k l => B.e (ix2 k l)) l := by
  rw [pay20_apply, ld_r0_10]
  simp only [qnorm_eq R]
  rfl

theorem normed_k (w : Vec Ideal S256x256 .bf16) (l : Fin 256) :
    k0_pay21 (F := Ideal) (k0_pay54 B.x B.ng B.win B.gql B.wuq B.gkv B.wuk B.wuv B.e B.cq B.sq B.ck B.sk B.gq B.gqs B.gk B.gks B.gkn) w (View.ld B.e r0_10) (ix2 p l)
      = normed (fun l => ∑ k : Fin 256, lat A b q k * w (ix2 k l)) (fun k l => B.e (ix2 k l)) l := by
  rw [pay21_apply, ld_r0_10]
  simp only [lat_eq R]
  rfl

/-- A query's head, at an offset of the two. -/
theorem query_lanes (w : Vec Ideal S384x256 .bf16) (h : Fin 8) (off : ℕ) (ho : off = 0 ∨ off = 128)
    (wl : ∀ (k : Fin 384) (l : ℕ) (_ : l < 96), w (ix2 k ⟨off + l, by omega⟩) = A.wuq (ix2 k ⟨96 * h.val + l, by omega⟩))
    (ws : ∀ (k : Fin 384) (i : Fin 32), w (ix2 k ⟨off + (96 + i.val), by omega⟩) = A.wuq (ix2 k ⟨96 * h.val + (64 + (swap i).val), by omega⟩)) (l : Fin 128) :
    k0_pay20 (F := Ideal) (k0_pay57 B.x B.ng B.win B.gql B.wuq B.gkv B.wuk B.wuv B.e B.cq B.sq B.ck B.sk B.gq B.gqs B.gk B.gks B.gkn) w (View.ld B.e r0_10) (ix2 p ⟨off + l.val, by omega⟩) * k0_pay60 (F := Ideal) B.x B.ng B.win B.gql B.wuq B.gkv B.wuk B.wuv B.e B.cq B.sq B.ck B.sk B.gq B.gqs B.gk B.gks B.gkn (ix2 p l)
      + k0_pay20 (F := Ideal) (k0_pay57 B.x B.ng B.win B.gql B.wuq B.gkv B.wuk B.wuv B.e B.cq B.sq B.ck B.sk B.gq B.gqs B.gk B.gks B.gkn) w (View.ld B.e r0_10) (ix2 p ⟨off + (l.val + 128 - 96) % 128, by omega⟩) * k0_pay61 (F := Ideal) B.x B.ng B.win B.gql B.wuq B.gkv B.wuk B.wuv B.e B.cq B.sq B.ck B.sk B.gq B.gqs B.gk B.gks B.gkn (ix2 p l)
      = qhead A b q h l := by
  rw [normed_q R, normed_q R, cosq_eq R, sinq_eq R]
  refine query_head (R.e off ho) _ A b q h (fun l => B.cq (ix2 p l) * (B.gq (ix2 0 l) * scale)) (fun l => B.sq (ix2 p l) * (B.gqs (ix2 0 l) * scale))
    ?_ ?_ ?_ ?_ ?_ ?_ ?_ ?_ l
  · exact fun l hl => Finset.sum_congr rfl fun k _ => congrArg (_ * ·) (wl k l hl)
  · exact fun i => Finset.sum_congr rfl fun k _ => congrArg (_ * ·) (ws k i)
  · exact fun d => by rw [R.cq_nope, R.gq_nope]
  · exact fun i => by rw [R.cq_rope, R.gq_rope]
  · exact fun i => by rw [R.cq_pad, zero_mul]
  · exact fun d => by rw [R.sq_nope, zero_mul]
  · exact fun i => by rw [R.sq_rope, R.gqs_rope]
  · exact fun i => by rw [R.sq_pad, zero_mul]

/-- A key's head, at an offset of the two. -/
theorem key_lanes (w : Vec Ideal S256x256 .bf16) (h : Fin 8) (off : ℕ) (ho : off = 0 ∨ off = 128)
    (wl : ∀ (k : Fin 256) (d : Fin 64), w (ix2 k ⟨off + d.val, by omega⟩) = A.wuk (ix3 k h d))
    (wp : ∀ (k : Fin 256) (d : Fin 64), w (ix2 k ⟨off + (64 + d.val), by omega⟩) = (0 : EReal)) (l : Fin 128) :
    k0_pay21 (F := Ideal) (k0_pay54 B.x B.ng B.win B.gql B.wuq B.gkv B.wuk B.wuv B.e B.cq B.sq B.ck B.sk B.gq B.gqs B.gk B.gks B.gkn) w (View.ld B.e r0_10) (ix2 p ⟨off + l.val, by omega⟩) * B.gkn (ix2 0 l)
      + k0_pay56 (F := Ideal) B.x B.ng B.win B.gql B.wuq B.gkv B.wuk B.wuv B.e B.cq B.sq B.ck B.sk B.gq B.gqs B.gk B.gks B.gkn (ix2 p l) = khead A b q h l := by
  rw [normed_k R]
  refine key_head (R.e off ho) _ A b q h (fun l => B.gkn (ix2 0 l)) (fun l => k0_pay56 (F := Ideal) B.x B.ng B.win B.gql B.wuq B.gkv B.wuk B.wuv B.e B.cq B.sq B.ck B.sk B.gq B.gqs B.gk B.gks B.gkn (ix2 p l)) ?_ ?_ R.gkn_nope (krot_rope R) (krot_zero R) l
  · exact fun d => Finset.sum_congr rfl fun k _ => congrArg (_ * ·) (wl k d)
  · exact fun d => Finset.sum_eq_zero fun k _ => by rw [wp k d, mul_zero]

/-- A value's head. -/
theorem value_lanes (h : Fin 8) (l : Fin 128) :
    k0_pay1 (F := Ideal) (k0_pay54 B.x B.ng B.win B.gql B.wuq B.gkv B.wuk B.wuv B.e B.cq B.sq B.ck B.sk B.gq B.gqs B.gk B.gks B.gkn) B.wuv (ix2 p ⟨128 * h.val + l.val, by omega⟩) = vhead A b q h l := by
  rw [pay1_apply]
  simp only [lat_eq R]
  unfold vhead
  by_cases h64 : l.val < 64
  · rw [dif_pos h64]
    exact Finset.sum_congr rfl fun k _ => congrArg (_ * ·) (R.wuv_low k h ⟨l.val, h64⟩)
  · rw [dif_neg h64]
    refine Finset.sum_eq_zero fun k _ => ?_
    rw [show B.wuv (ix2 k ⟨128 * h.val + l.val, by omega⟩) = 0 from
      (congrArg (fun j => B.wuv (ix2 k j)) (Fin.ext (by simp only; omega))).trans (R.wuv_pad k h ⟨l.val - 64, by omega⟩), mul_zero]

end Cert.Proof.In

end
-- ==== Proof.InTiles.lean ====
/-
  THE INPUT PROJECTIONS ON ONE TOKEN: a row of each output block, put together from the stores that make it.
-/
module

public import proofs.«01_k».proof.Proof.InBlock

@[expose] public section

set_option maxRecDepth 16384

noncomputable section

namespace Cert.Proof.In

open Cert.KernelInIdeal Cert.KernelInIdeal.Gen
open Idealize.ShloMosaic Idealize.ShloMosaic.TcCoe Idealize.ShloMosaic.Tactic

variable {A : Args} {b : Fin 16} {q : Fin 4096} {p : Fin 256} {B : Blocks} (R : Reads A b q p B)
include R

theorem out_lat (j : Fin 256) : out0_18 (F := Ideal) B.x B.ng B.win B.gql B.wuq B.gkv B.wuk B.wuv B.e B.cq B.sq B.ck B.sk B.gq B.gqs B.gk B.gks B.gkn (ix2 p j) = lat A b q j := by
  unfold out0_18
  rw [View.canon_cons_unit_lit _ _ _ (by decide)]
  exact lat_at R j

theorem out_kr (j : Fin 32) : out0_19 (F := Ideal) B.x B.ng B.win B.gql B.wuq B.gkv B.wuk B.wuv B.e B.cq B.sq B.ck B.sk B.gq B.gqs B.gk B.gks B.gkn (ix2 p j) = kr A b q j := by
  unfold out0_19
  rw [View.canon_cons_unit_lit _ _ _ (by decide)]
  rw [pay13_apply, ld_r0_11, ld_r0_12, ld_r0_11, ld_r0_12]
  exact kr_low R j

theorem out_value (j : Fin 1024) : out0_22 (F := Ideal) B.x B.ng B.win B.gql B.wuq B.gkv B.wuk B.wuv B.e B.cq B.sq B.ck B.sk B.gq B.gqs B.gk B.gks B.gkn (ix2 p j) = vhead A b q (head j) (lane j) := by
  unfold out0_22
  rw [View.canon_cons_unit_lit _ _ _ (by decide)]
  rw [View.ld_unit_lit _ _ (by decide)]
  have hj : (⟨128 * (head j).val + (lane j).val, by have := (head j).isLt; have := (lane j).isLt; omega⟩ : Fin 1024) = j :=
    Fin.ext (Nat.div_add_mod j.val 128)
  exact (congrArg (fun i => k0_pay1 (F := Ideal) (k0_pay54 B.x B.ng B.win B.gql B.wuq B.gkv B.wuk B.wuv B.e B.cq B.sq B.ck B.sk B.gq B.gqs B.gk B.gks B.gkn) B.wuv (ix2 p i)) hj).symm.trans (value_lanes R (head j) (lane j))

theorem out_gate (j : Fin 512) : out0_23 (F := Ideal) B.x B.ng B.win B.gql B.wuq B.gkv B.wuk B.wuv B.e B.cq B.sq B.ck B.sk B.gq B.gqs B.gk B.gks B.gkn (ix2 p j) = proj A b q ⟨672 + j.val, by omega⟩ := by
  unfold out0_23
  rw [View.canon_cons_unit_lit _ _ _ (by decide)]
  rw [ld_r0_0, ld_r0_1]
  exact gate_at R j

theorem out_u (j : Fin 512) : out0_24 (F := Ideal) B.x B.ng B.win B.gql B.wuq B.gkv B.wuk B.wuv B.e B.cq B.sq B.ck B.sk B.gq B.gqs B.gk B.gks B.gkn (ix2 p j) = proj A b q ⟨1184 + j.val, by omega⟩ := by
  unfold out0_24
  rw [View.canon_cons_unit_lit _ _ _ (by decide)]
  rw [ld_r0_0, ld_r0_1]
  exact value_at R j

theorem out_state (j : Fin 512) : out0_25 (F := Ideal) B.x B.ng B.win B.gql B.wuq B.gkv B.wuk B.wuv B.e B.cq B.sq B.ck B.sk B.gq B.gqs B.gk B.gks B.gkn (ix2 p j) = proj A b q ⟨1696 + j.val, by omega⟩ := by
  unfold out0_25
  rw [View.canon_cons_unit_lit _ _ _ (by decide)]
  rw [ld_r0_0, ld_r0_1]
  exact state_at R j

/-- A query's head in the first half of a pair's columns `o …`. -/
theorem query_even (w : Vec Ideal S384x256 .bf16) (h : Fin 8)
    (hw : ∀ (k : Fin 384) (j : Fin 256), w (ix2 k j) = B.wuq (ix2 k ⟨256 * (h.val / 2) + j.val, by omega⟩)) (h2 : h.val % 2 = 0) (l : Fin 128) :
    k0_pay48 (F := Ideal) (k0_pay60 B.x B.ng B.win B.gql B.wuq B.gkv B.wuk B.wuv B.e B.cq B.sq B.ck B.sk B.gq B.gqs B.gk B.gks B.gkn) (k0_pay61 B.x B.ng B.win B.gql B.wuq B.gkv B.wuk B.wuv B.e B.cq B.sq B.ck B.sk B.gq B.gqs B.gk B.gks B.gkn) (k0_pay20 (k0_pay57 B.x B.ng B.win B.gql B.wuq B.gkv B.wuk B.wuv B.e B.cq B.sq B.ck B.sk B.gq B.gqs B.gk B.gks B.gkn) w (View.ld B.e r0_10)) (ix2 p l) = qhead A b q h l := by
  rw [pay48_apply]
  refine Eq.trans ?_ (query_lanes R w h 0 (Or.inl rfl) (fun k l hl => ?_) (fun k i => ?_) l)
  · simp only [Nat.zero_add]
  · exact (hw k _).trans ((congrArg (fun j => B.wuq (ix2 k j)) (Fin.ext (by simp only; omega))).trans (R.wuq_low k h l hl))
  · exact (hw k _).trans ((congrArg (fun j => B.wuq (ix2 k j)) (Fin.ext (by simp only; omega))).trans (R.wuq_swap k h i))

theorem query_odd (w : Vec Ideal S384x256 .bf16) (h : Fin 8)
    (hw : ∀ (k : Fin 384) (j : Fin 256), w (ix2 k j) = B.wuq (ix2 k ⟨256 * (h.val / 2) + j.val, by omega⟩)) (h2 : h.val % 2 = 1) (l : Fin 128) :
    k0_pay50 (F := Ideal) (k0_pay60 B.x B.ng B.win B.gql B.wuq B.gkv B.wuk B.wuv B.e B.cq B.sq B.ck B.sk B.gq B.gqs B.gk B.gks B.gkn) (k0_pay61 B.x B.ng B.win B.gql B.wuq B.gkv B.wuk B.wuv B.e B.cq B.sq B.ck B.sk B.gq B.gqs B.gk B.gks B.gkn) (k0_pay20 (k0_pay57 B.x B.ng B.win B.gql B.wuq B.gkv B.wuk B.wuv B.e B.cq B.sq B.ck B.sk B.gq B.gqs B.gk B.gks B.gkn) w (View.ld B.e r0_10)) (ix2 p l) = qhead A b q h l := by
  rw [pay50_apply]
  refine query_lanes R w h 128 (Or.inr rfl) (fun k l hl => ?_) (fun k i => ?_) l
  · exact (hw k _).trans ((congrArg (fun j => B.wuq (ix2 k j)) (Fin.ext (by simp only; omega))).trans (R.wuq_low k h l hl))
  · exact (hw k _).trans ((congrArg (fun j => B.wuq (ix2 k j)) (Fin.ext (by simp only; omega))).trans (R.wuq_swap k h i))

/-- A key's head in the two halves of a pair's columns. -/
theorem key_even (w : Vec Ideal S256x256 .bf16) (h : Fin 8)
    (hw : ∀ (k : Fin 256) (j : Fin 256), w (ix2 k j) = B.wuk (ix2 k ⟨256 * (h.val / 2) + j.val, by omega⟩)) (h2 : h.val % 2 = 0) (l : Fin 128) :
    k0_pay26 (F := Ideal) (k0_pay56 B.x B.ng B.win B.gql B.wuq B.gkv B.wuk B.wuv B.e B.cq B.sq B.ck B.sk B.gq B.gqs B.gk B.gks B.gkn) (k0_pay21 (k0_pay54 B.x B.ng B.win B.gql B.wuq B.gkv B.wuk B.wuv B.e B.cq B.sq B.ck B.sk B.gq B.gqs B.gk B.gks B.gkn) w (View.ld B.e r0_10)) (View.ld B.gkn r0_12) (ix2 p l) = khead A b q h l := by
  rw [pay26_apply, ld_r0_12]
  refine Eq.trans ?_ (key_lanes R w h 0 (Or.inl rfl) (fun k d => ?_) (fun k d => ?_) l)
  · simp only [Nat.zero_add]
  · exact (hw k _).trans ((congrArg (fun j => B.wuk (ix2 k j)) (Fin.ext (by simp only; omega))).trans (R.wuk_low k h d))
  · exact (hw k _).trans ((congrArg (fun j => B.wuk (ix2 k j)) (Fin.ext (by simp only; omega))).trans (R.wuk_pad k h d))

theorem key_odd (w : Vec Ideal S256x256 .bf16) (h : Fin 8)
    (hw : ∀ (k : Fin 256) (j : Fin 256), w (ix2 k j) = B.wuk (ix2 k ⟨256 * (h.val / 2) + j.val, by omega⟩)) (h2 : h.val % 2 = 1) (l : Fin 128) :
    k0_pay28 (F := Ideal) (k0_pay56 B.x B.ng B.win B.gql B.wuq B.gkv B.wuk B.wuv B.e B.cq B.sq B.ck B.sk B.gq B.gqs B.gk B.gks B.gkn) (k0_pay21 (k0_pay54 B.x B.ng B.win B.gql B.wuq B.gkv B.wuk B.wuv B.e B.cq B.sq B.ck B.sk B.gq B.gqs B.gk B.gks B.gkn) w (View.ld B.e r0_10)) (View.ld B.gkn r0_12) (ix2 p l) = khead A b q h l := by
  rw [pay28_apply, ld_r0_12]
  refine key_lanes R w h 128 (Or.inr rfl) (fun k d => ?_) (fun k d => ?_) l
  · exact (hw k _).trans ((congrArg (fun j => B.wuk (ix2 k j)) (Fin.ext (by simp only; omega))).trans (R.wuk_low k h d))
  · exact (hw k _).trans ((congrArg (fun j => B.wuk (ix2 k j)) (Fin.ext (by simp only; omega))).trans (R.wuk_pad k h d))

omit R in
/-- From a store's index to the row and lane it names. -/
theorem at_lane (f : Vec Ideal S256x128 .bf16) (E : Fin 8 → Fin 128 → EReal) (h : Fin 8) (hf : ∀ l : Fin 128, f (ix2 p l) = E h l)
    (x : S256x128.Idx) (j : Fin 1024) (h0 : p.val = (x 0).val) (h1 : j.val = 128 * h.val + (x 1).val) : f x = E (head j) (lane j) := by
  have hx1 : (x 1).val < 128 := (x 1).isLt
  have ex : x = ix2 p (x 1) := funext fun a => match a with
    | ⟨0, _⟩ => Fin.ext h0.symm
    | ⟨1, _⟩ => rfl
  have eh : head j = h := Fin.ext (by unfold head; simp only; omega)
  have el : lane j = x 1 := Fin.ext (by unfold lane; simp only; omega)
  rw [eh, el, ex]
  exact hf (x 1)

omit R in
theorem pair_q (o : ℕ) (inb) (k : Fin 384) (j : Fin 256) (ho : o + 256 ≤ 1024) :
    View.ld B.wuq (Rect.unit (s := S384x1024) ![0, o] ![384, 256] inb) (ix2 k j : (⟨2, ![384, 256]⟩ : Shape).Idx) = B.wuq (ix2 k ⟨o + j.val, by omega⟩) :=
  ld_cols B.wuq inb k j (by omega)

omit R in
theorem pair_k (o : ℕ) (inb) (k : Fin 256) (j : Fin 256) (ho : o + 256 ≤ 1024) :
    View.ld B.wuk (Rect.unit (s := S256x1024) ![0, o] ![256, 256] inb) (ix2 k j : (⟨2, ![256, 256]⟩ : Shape).Idx) = B.wuk (ix2 k ⟨o + j.val, by omega⟩) :=
  ld_cols B.wuk inb k j (by omega)

theorem out_query (j : Fin 1024) : out0_20 (F := Ideal) B.x B.ng B.win B.gql B.wuq B.gkv B.wuk B.wuv B.e B.cq B.sq B.ck B.sk B.gq B.gqs B.gk B.gks B.gkn (ix2 p j) = qhead A b q (head j) (lane j) := by
  canon_tiles x h
  case piece0 => exact at_lane _ (qhead A b q) 7 (query_odd R _ 7 (fun k j => pair_q 768 _ k j (by omega)) rfl) x j h0 h1
  case piece1 => exact at_lane _ (qhead A b q) 6 (query_even R _ 6 (fun k j => pair_q 768 _ k j (by omega)) rfl) x j h0 h1
  case piece2 => exact at_lane _ (qhead A b q) 5 (query_odd R _ 5 (fun k j => pair_q 512 _ k j (by omega)) rfl) x j h0 h1
  case piece3 => exact at_lane _ (qhead A b q) 4 (query_even R _ 4 (fun k j => pair_q 512 _ k j (by omega)) rfl) x j h0 h1
  case piece4 => exact at_lane _ (qhead A b q) 3 (query_odd R _ 3 (fun k j => pair_q 256 _ k j (by omega)) rfl) x j h0 h1
  case piece5 => exact at_lane _ (qhead A b q) 2 (query_even R _ 2 (fun k j => pair_q 256 _ k j (by omega)) rfl) x j h0 h1
  case piece6 => exact at_lane _ (qhead A b q) 1 (query_odd R _ 1 (fun k j => pair_q 0 _ k j (by omega)) rfl) x j h0 h1
  case piece7 => exact at_lane _ (qhead A b q) 0 (query_even R _ 0 (fun k j => pair_q 0 _ k j (by omega)) rfl) x j h0 (h1.trans (Nat.zero_add _).symm)

theorem out_key (j : Fin 1024) : out0_21 (F := Ideal) B.x B.ng B.win B.gql B.wuq B.gkv B.wuk B.wuv B.e B.cq B.sq B.ck B.sk B.gq B.gqs B.gk B.gks B.gkn (ix2 p j) = khead A b q (head j) (lane j) := by
  canon_tiles x h
  case piece0 => exact at_lane _ (khead A b q) 7 (key_odd R _ 7 (fun k j => pair_k 768 _ k j (by omega)) rfl) x j h0 h1
  case piece1 => exact at_lane _ (khead A b q) 6 (key_even R _ 6 (fun k j => pair_k 768 _ k j (by omega)) rfl) x j h0 h1
  case piece2 => exact at_lane _ (khead A b q) 5 (key_odd R _ 5 (fun k j => pair_k 512 _ k j (by omega)) rfl) x j h0 h1
  case piece3 => exact at_lane _ (khead A b q) 4 (key_even R _ 4 (fun k j => pair_k 512 _ k j (by omega)) rfl) x j h0 h1
  case piece4 => exact at_lane _ (khead A b q) 3 (key_odd R _ 3 (fun k j => pair_k 256 _ k j (by omega)) rfl) x j h0 h1
  case piece5 => exact at_lane _ (khead A b q) 2 (key_even R _ 2 (fun k j => pair_k 256 _ k j (by omega)) rfl) x j h0 h1
  case piece6 => exact at_lane _ (khead A b q) 1 (key_odd R _ 1 (fun k j => pair_k 0 _ k j (by omega)) rfl) x j h0 h1
  case piece7 => exact at_lane _ (khead A b q) 0 (key_even R _ 0 (fun k j => pair_k 0 _ k j (by omega)) rfl) x j h0 (h1.trans (Nat.zero_add _).symm)

end Cert.Proof.In

end
-- ==== Proof.InArgs.lean ====
/-
  THE ARRAYS THE INPUT PROJECTIONS' KERNEL READS, named.
-/
module

public import proofs.«01_k».proof.Proof.InMath
public import proofs.«01_k».proof.Proof.InFrameIdeal
public import Idealize.ShloMosaic.Lib.Claim
public import Idealize.ShloMosaic.Lib.StableHlo.ReadAt
public import Idealize.ShloMosaic.Lib.Pointwise

@[expose] public section

set_option maxRecDepth 16384

noncomputable section

namespace Cert.Proof.In

open Cert.KernelInIdeal Cert.KernelInIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The kernel's arguments. -/
def args : Args where
  x := m ((c : Thread nD τ).loc main_arg0)
  cos := m ((c : Thread nD τ).loc main_arg1)
  sin := m ((c : Thread nD τ).loc main_arg2)
  ng := m ((c : Thread nD τ).loc main_arg3)
  win := m ((c : Thread nD τ).loc main_arg4)
  gql := m ((c : Thread nD τ).loc main_arg5)
  wuq := m ((c : Thread nD τ).loc main_arg6)
  gkv := m ((c : Thread nD τ).loc main_arg7)
  wuk := m ((c : Thread nD τ).loc main_arg8)
  wuv := m ((c : Thread nD τ).loc main_arg9)
  gqn := m ((c : Thread nD τ).loc main_arg10)
  gqr := m ((c : Thread nD τ).loc main_arg11)
  gkn := m ((c : Thread nD τ).loc main_arg12)
  gkr := m ((c : Thread nD τ).loc main_arg13)

abbrev aX : Vec Ideal S65536x1024 .f32 := V m c main_v62
abbrev aNg : Vec Ideal S1x1024 .f32 := V m c main_v26
abbrev aWin : Vec Ideal S1024x2304 .bf16 := V m c main_v9
abbrev aGql : Vec Ideal S1x384 .f32 := V m c main_v27
abbrev aWuq : Vec Ideal S384x1024 .bf16 := V m c main_v18
abbrev aGkv : Vec Ideal S1x256 .f32 := V m c main_v28
abbrev aWuk : Vec Ideal S256x1024 .bf16 := V m c main_v22
abbrev aWuv : Vec Ideal S256x1024 .bf16 := V m c main_v25
abbrev aE : Vec Ideal S256x256 .bf16 := V m c main_v44
abbrev aCq : Vec Ideal S4096x128 .f32 := V m c main_v68
abbrev aSq : Vec Ideal S4096x128 .f32 := V m c main_v69
abbrev aCk : Vec Ideal S4096x128 .f32 := V m c main_v70
abbrev aSk : Vec Ideal S4096x128 .f32 := V m c main_v71
abbrev aGq : Vec Ideal S1x128 .f32 := V m c main_v47
abbrev aGqs : Vec Ideal S1x128 .f32 := V m c main_v52
abbrev aGk : Vec Ideal S1x128 .f32 := V m c main_v54
abbrev aGks : Vec Ideal S1x128 .f32 := V m c main_v59
abbrev aGkn : Vec Ideal S1x128 .f32 := V m c main_v61

theorem swap_val (i : Fin 32) : (swap i).val = if i.val < 16 then i.val + 16 else i.val - 16 := by
  unfold swap; by_cases h : i.val < 16
  · rw [dif_pos h, if_pos h]
  · rw [dif_neg h, if_neg h]

end Cert.Proof.In

end
-- ==== Proof.InReads.lean ====
/-
  THE ARRAYS THE INPUT PROJECTIONS' KERNEL READS, entry by entry from the arguments.
-/
module

public import proofs.«01_k».proof.Proof.InArgs
public import proofs.«01_k».proof.Proof.InFrameIdeal
public import Idealize.ShloMosaic.Lib.Claim
public import Idealize.ShloMosaic.Lib.StableHlo.ReadAt
public import Idealize.ShloMosaic.Lib.Pointwise

@[expose] public section

set_option maxRecDepth 16384

noncomputable section

namespace Cert.Proof.In

open Cert.KernelInIdeal Cert.KernelInIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

theorem aX_apply (r : Fin 65536) (k : Fin 1024) : aX m c (ix2 r k) = (args m c).x (ix3 (batch r) (pos r) k) := by
  unfold aX V args batch pos
  after_reads_at

theorem aNg_apply (k : Fin 1024) : aNg m c (ix2 0 k) = (args m c).ng (ix1 k) := by
  unfold aNg V args
  after_reads_at

theorem aGql_apply (k : Fin 384) : aGql m c (ix2 0 k) = (args m c).gql (ix1 k) := by
  unfold aGql V args
  after_reads_at

theorem aGkv_apply (k : Fin 256) : aGkv m c (ix2 0 k) = (args m c).gkv (ix1 k) := by
  unfold aGkv V args
  after_reads_at

/-! ## The weights of the first product: queries and latents, the rotary key twice, gate, value and state -/

theorem aWin_low (k : Fin 1024) (j : Fin 640) : aWin m c (ix2 k ⟨j.val, by omega⟩) = (args m c).win (ix2 k ⟨j.val, by omega⟩) := by
  unfold aWin V args
  repeat first
    | rw [dif_pos (by omega)]
    | rw [dif_neg (by omega)]
    | after_reads_at

theorem aWin_key (k : Fin 1024) (i : Fin 32) : aWin m c (ix2 k ⟨640 + i.val, by omega⟩) = (args m c).win (ix2 k ⟨640 + i.val, by omega⟩) := by
  unfold aWin V args
  repeat first
    | rw [dif_pos (by omega)]
    | rw [dif_neg (by omega)]
    | after_reads_at

theorem aWin_swap (k : Fin 1024) (i : Fin 32) : aWin m c (ix2 k ⟨672 + i.val, by omega⟩) = (args m c).win (ix2 k ⟨640 + (swap i).val, by omega⟩) := by
  have e := swap_val i
  unfold aWin V args
  after_reads_at
  rw [dif_neg (by omega), dif_pos (by omega)]
  after_reads_at
  rw [dif_neg (by omega), dif_pos (by omega)]
  after_reads_at
  by_cases hi : i.val < 16
  · rw [if_pos hi] at e
    rw [dif_pos (by omega)]
    exact congrArg (fun x => m ((c : Thread nD τ).loc main_arg4) (ix2 k x)) (Fin.ext (by dsimp only; omega))
  · rw [if_neg hi] at e
    rw [dif_neg (by omega)]
    exact congrArg (fun x => m ((c : Thread nD τ).loc main_arg4) (ix2 k x)) (Fin.ext (by dsimp only; omega))

theorem aWin_high (k : Fin 1024) (j : Fin 1536) : aWin m c (ix2 k ⟨768 + j.val, by omega⟩) = (args m c).win (ix2 k ⟨672 + j.val, by omega⟩) := by
  have e : 768 + j.val - 640 - 128 = j.val := by omega
  unfold aWin V args
  after_reads_at
  rw [dif_neg (by omega), dif_neg (by omega)]
  after_reads_at
  simp only [e]

/-! ## The weights of the heads -/

theorem aWuq_low (k : Fin 384) (h : Fin 8) (l : ℕ) (hl : l < 96) : aWuq m c (ix2 k ⟨128 * h.val + l, by omega⟩) = (args m c).wuq (ix2 k ⟨96 * h.val + l, by omega⟩) := by
  unfold aWuq V args
  after_reads_at
  by_cases h64 : l < 64
  · rw [dif_pos (by omega)]
    after_reads_at
    exact congrArg (fun x => m ((c : Thread nD τ).loc main_arg6) (ix2 k x)) (Fin.ext (by dsimp only; omega))
  · rw [dif_neg (by omega), dif_pos (by omega)]
    after_reads_at
    exact congrArg (fun x => m ((c : Thread nD τ).loc main_arg6) (ix2 k x)) (Fin.ext (by dsimp only; omega))

theorem aWuq_swap (k : Fin 384) (h : Fin 8) (i : Fin 32) : aWuq m c (ix2 k ⟨128 * h.val + (96 + i.val), by omega⟩) = (args m c).wuq (ix2 k ⟨96 * h.val + (64 + (swap i).val), by omega⟩) := by
  have e := swap_val i
  unfold aWuq V args
  after_reads_at
  rw [dif_neg (by omega), dif_neg (by omega)]
  after_reads_at
  by_cases hi : i.val < 16
  · rw [if_pos hi] at e
    rw [dif_pos (by omega)]
    exact congrArg (fun x => m ((c : Thread nD τ).loc main_arg6) (ix2 k x)) (Fin.ext (by dsimp only; omega))
  · rw [if_neg hi] at e
    rw [dif_neg (by omega)]
    exact congrArg (fun x => m ((c : Thread nD τ).loc main_arg6) (ix2 k x)) (Fin.ext (by dsimp only; omega))

theorem aWuk_low (k : Fin 256) (h : Fin 8) (d : Fin 64) : aWuk m c (ix2 k ⟨128 * h.val + d.val, by omega⟩) = (args m c).wuk (ix3 k h d) := by
  have e1 : (128 * h.val + d.val) % 128 = d.val := by omega
  have e2 : (128 * h.val + d.val) / 128 = h.val := by omega
  unfold aWuk V args
  repeat first
    | rw [dif_pos (by omega)]
    | rw [dif_neg (by omega)]
    | after_reads_at
  simp only [e1, e2]

theorem aWuk_pad (k : Fin 256) (h : Fin 8) (d : Fin 64) : aWuk m c (ix2 k ⟨128 * h.val + (64 + d.val), by omega⟩) = (0 : EReal) := by
  unfold aWuk V
  after_reads_at
  rw [dif_neg (by omega)]
  after_reads_at

theorem aWuv_low (k : Fin 256) (h : Fin 8) (d : Fin 64) : aWuv m c (ix2 k ⟨128 * h.val + d.val, by omega⟩) = (args m c).wuv (ix3 k h d) := by
  have e1 : (128 * h.val + d.val) % 128 = d.val := by omega
  have e2 : (128 * h.val + d.val) / 128 = h.val := by omega
  unfold aWuv V args
  repeat first
    | rw [dif_pos (by omega)]
    | rw [dif_neg (by omega)]
    | after_reads_at
  simp only [e1, e2]

theorem aWuv_pad (k : Fin 256) (h : Fin 8) (d : Fin 64) : aWuv m c (ix2 k ⟨128 * h.val + (64 + d.val), by omega⟩) = (0 : EReal) := by
  unfold aWuv V
  after_reads_at
  rw [dif_neg (by omega)]
  after_reads_at

end Cert.Proof.In

end
-- ==== Proof.InTables.lean ====
/-
  THE INPUT PROJECTIONS' GAINS AND TABLES the kernel reads, entry by entry from the arguments.
-/
module

public import proofs.«01_k».proof.Proof.InArgs
public import proofs.«01_k».proof.Proof.InFrameIdeal
public import Idealize.ShloMosaic.Lib.Claim
public import Idealize.ShloMosaic.Lib.StableHlo.ReadAt
public import Idealize.ShloMosaic.Lib.Pointwise

@[expose] public section

set_option maxRecDepth 16384

noncomputable section

namespace Cert.Proof.In

open Cert.KernelInIdeal Cert.KernelInIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The tables' padding: the integer zero. -/
theorem sitofp_zero : (FloatOps.sitofp (F := Ideal) FTy.f32 0#32 : EReal) = 0 := by
  simp [FloatOps.sitofp]

/-! ## The rows of gains -/

theorem aGq_nope (d : Fin 64) : aGq m c (ix2 0 ⟨d.val, by omega⟩) = (args m c).gqn (ix1 d) := by
  unfold aGq V args
  repeat first
    | rw [dif_pos (by omega)]
    | rw [dif_neg (by omega)]
    | after_reads_at

theorem aGq_rope (i : Fin 32) : aGq m c (ix2 0 ⟨64 + i.val, by omega⟩) = (args m c).gqr (ix1 i) := by
  unfold aGq V args
  repeat first
    | rw [dif_pos (by omega)]
    | rw [dif_neg (by omega)]
    | after_reads_at

theorem aGqs_rope (i : Fin 32) : aGqs m c (ix2 0 ⟨64 + i.val, by omega⟩) = (args m c).gqr (ix1 (swap i)) := by
  unfold aGqs V args swap
  by_cases hi : i.val < 16
  · rw [dif_pos hi]
    repeat first
      | rw [dif_pos (by omega)]
      | rw [dif_neg (by omega)]
      | after_reads_at
    simp only [Nat.add_comm 16]
  · rw [dif_neg hi]
    repeat first
      | rw [dif_pos (by omega)]
      | rw [dif_neg (by omega)]
      | after_reads_at

theorem aGk_rope (i : Fin 32) : aGk m c (ix2 0 ⟨i.val, by omega⟩) = (args m c).gkr (ix1 i) := by
  unfold aGk V args
  repeat first
    | rw [dif_pos (by omega)]
    | rw [dif_neg (by omega)]
    | after_reads_at

theorem aGks_rope (i : Fin 32) : aGks m c (ix2 0 ⟨i.val, by omega⟩) = (args m c).gkr (ix1 (swap i)) := by
  unfold aGks V args swap
  by_cases hi : i.val < 16
  · rw [dif_pos hi]
    repeat first
      | rw [dif_pos (by omega)]
      | rw [dif_neg (by omega)]
      | after_reads_at
    simp only [Nat.add_comm 16]
  · rw [dif_neg hi]
    repeat first
      | rw [dif_pos (by omega)]
      | rw [dif_neg (by omega)]
      | after_reads_at

theorem aGkn_nope (d : Fin 64) : aGkn m c (ix2 0 ⟨d.val, by omega⟩) = (args m c).gkn (ix1 d) := by
  unfold aGkn V args
  repeat first
    | rw [dif_pos (by omega)]
    | rw [dif_neg (by omega)]
    | after_reads_at

/-! ## The tables -/

theorem aCq_nope (p : Fin 4096) (d : Fin 64) : aCq m c (ix2 p ⟨d.val, by omega⟩) = (1 : EReal) := by
  unfold aCq V
  repeat first
    | exact sitofp_zero
    | rw [dif_pos (by omega)]
    | rw [dif_neg (by omega)]
    | after_reads_at

theorem aCq_rope (p : Fin 4096) (i : Fin 32) : aCq m c (ix2 p ⟨64 + i.val, by omega⟩) = cos2 (cosRow (args m c) p) i := by
  unfold aCq V args cosRow cos2
  by_cases hi : i.val < 16
  · rw [dif_pos hi]
    repeat first
      | rw [dif_pos (by omega)]
      | rw [dif_neg (by omega)]
      | after_reads_at
  · rw [dif_neg hi]
    repeat first
      | rw [dif_pos (by omega)]
      | rw [dif_neg (by omega)]
      | after_reads_at

theorem aCq_pad (p : Fin 4096) (i : Fin 32) : aCq m c (ix2 p ⟨96 + i.val, by omega⟩) = (0 : EReal) := by
  unfold aCq V
  repeat first
    | exact sitofp_zero
    | rw [dif_pos (by omega)]
    | rw [dif_neg (by omega)]
    | after_reads_at

theorem aSq_nope (p : Fin 4096) (d : Fin 64) : aSq m c (ix2 p ⟨d.val, by omega⟩) = (0 : EReal) := by
  unfold aSq V
  repeat first
    | exact sitofp_zero
    | rw [dif_pos (by omega)]
    | rw [dif_neg (by omega)]
    | after_reads_at

theorem aSq_rope (p : Fin 4096) (i : Fin 32) : aSq m c (ix2 p ⟨64 + i.val, by omega⟩) = sin2 (sinRow (args m c) p) i := by
  unfold aSq V args sinRow sin2
  by_cases hi : i.val < 16
  · rw [dif_pos hi]
    repeat first
      | rw [dif_pos (by omega)]
      | rw [dif_neg (by omega)]
      | after_reads_at
  · rw [dif_neg hi]
    repeat first
      | rw [dif_pos (by omega)]
      | rw [dif_neg (by omega)]
      | after_reads_at

theorem aSq_pad (p : Fin 4096) (i : Fin 32) : aSq m c (ix2 p ⟨96 + i.val, by omega⟩) = (0 : EReal) := by
  unfold aSq V
  repeat first
    | exact sitofp_zero
    | rw [dif_pos (by omega)]
    | rw [dif_neg (by omega)]
    | after_reads_at

theorem aCk_rope (p : Fin 4096) (i : Fin 32) : aCk m c (ix2 p ⟨i.val, by omega⟩) = cos2 (cosRow (args m c) p) i := by
  unfold aCk V args cosRow cos2
  by_cases hi : i.val < 16
  · rw [dif_pos hi]
    repeat first
      | rw [dif_pos (by omega)]
      | rw [dif_neg (by omega)]
      | after_reads_at
  · rw [dif_neg hi]
    repeat first
      | rw [dif_pos (by omega)]
      | rw [dif_neg (by omega)]
      | after_reads_at

theorem aCk_pad (p : Fin 4096) (j : ℕ) (h0 : 32 ≤ j) (h1 : j < 128) : aCk m c (ix2 p ⟨j, h1⟩) = (0 : EReal) := by
  unfold aCk V
  repeat first
    | exact sitofp_zero
    | rw [dif_pos (by omega)]
    | rw [dif_neg (by omega)]
    | after_reads_at

theorem aSk_rope (p : Fin 4096) (i : Fin 32) : aSk m c (ix2 p ⟨i.val, by omega⟩) = sin2 (sinRow (args m c) p) i := by
  unfold aSk V args sinRow sin2
  by_cases hi : i.val < 16
  · rw [dif_pos hi]
    repeat first
      | rw [dif_pos (by omega)]
      | rw [dif_neg (by omega)]
      | after_reads_at
  · rw [dif_neg hi]
    repeat first
      | rw [dif_pos (by omega)]
      | rw [dif_neg (by omega)]
      | after_reads_at

theorem aSk_pad (p : Fin 4096) (j : ℕ) (h0 : 32 ≤ j) (h1 : j < 128) : aSk m c (ix2 p ⟨j, h1⟩) = (0 : EReal) := by
  unfold aSk V
  repeat first
    | exact sitofp_zero
    | rw [dif_pos (by omega)]
    | rw [dif_neg (by omega)]
    | after_reads_at

end Cert.Proof.In

end
-- ==== Proof.InMeans.lean ====
/-
  THE MATRIX OF MEANS the kernel reads: a column sums the squares of its own group of lanes, weighted by the group's size.
-/
module

public import proofs.«01_k».proof.Proof.InArgs
public import proofs.«01_k».proof.Proof.InFrameIdeal
public import Idealize.ShloMosaic.Lib.Claim
public import Idealize.ShloMosaic.Lib.StableHlo.ReadAt
public import Idealize.ShloMosaic.Lib.Pointwise

@[expose] public section

set_option maxRecDepth 16384

noncomputable section

namespace Cert.Proof.In

open Cert.KernelInIdeal Cert.KernelInIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

set_option maxHeartbeats 2000000 in
theorem aE_nope (k : Fin 256) (off : ℕ) (ho : off = 0 ∨ off = 128) (d : Fin 64) :
    aE m c (ix2 k ⟨off + d.val, by omega⟩) = if off ≤ k.val ∧ k.val < off + 64 then Ideal.ofBits .f32 0x3C800000#32 else 0 := by
  unfold aE V
  after_reads_at
  rcases ho with rfl | rfl
  all_goals split_ifs
  all_goals first
    | (exfalso; omega)
    | after_reads_at
  all_goals repeat first
    | rw [dif_pos (by omega)]
    | rw [dif_neg (by omega)]
    | rw [if_pos (by omega)]
    | rw [if_neg (by omega)]
  all_goals after_reads_at
  all_goals first | rw [if_pos (by omega)] | rw [if_neg (by omega)]

set_option maxHeartbeats 2000000 in
theorem aE_rope (k : Fin 256) (off : ℕ) (ho : off = 0 ∨ off = 128) (d : Fin 64) :
    aE m c (ix2 k ⟨off + (64 + d.val), by omega⟩) = if off + 64 ≤ k.val ∧ k.val < off + 64 + 32 then Ideal.ofBits .f32 0x3D000000#32 else 0 := by
  unfold aE V
  after_reads_at
  rcases ho with rfl | rfl
  all_goals split_ifs
  all_goals first
    | (exfalso; omega)
    | after_reads_at
  all_goals repeat first
    | rw [dif_pos (by omega)]
    | rw [dif_neg (by omega)]
    | rw [if_pos (by omega)]
    | rw [if_neg (by omega)]
  all_goals after_reads_at
  all_goals first | rw [if_pos (by omega)] | rw [if_neg (by omega)]

end Cert.Proof.In

end
-- ==== Proof.InToken.lean ====
/-
  THE INPUT PROJECTIONS' KERNEL: what input blocks that are parts of the arrays hold for one token.
-/
module

public import proofs.«01_k».proof.Proof.InTiles
public import proofs.«01_k».proof.Proof.InReads
public import proofs.«01_k».proof.Proof.InTables
public import proofs.«01_k».proof.Proof.InMeans
public import Idealize.ShloMosaic.Lib.Pipeline.ValueKit

@[expose] public section

set_option maxRecDepth 16384

noncomputable section

namespace Cert.Proof.In

open Cert.KernelInIdeal Cert.KernelInIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD) (t : Fin cfg0.N)

/-- A block's row among all tokens. -/
def row (p : Fin 256) : Fin 65536 := ⟨256 * t.val + p.val, by
  have : t.val < 256 := lt_of_lt_of_eq t.isLt N_0
  omega⟩

theorem pos_row (p : Fin 256) : (pos (row t p)).val = 256 * (t.val % 16) + p.val := by
  unfold pos row
  simp only
  omega

theorem means (off : ℕ) (ho : off = 0 ∨ off = 128) : Means (fun k l => aE m c (ix2 k l)) off ho where
  nope k d := aE_nope m c k off ho d
  rope k d := aE_rope m c k off ho d

/-- Blocks that are the whole of their arrays, or the rows of the token, hold what a token reads. -/
theorem reads_of (B : Blocks) (p : Fin 256)
    (h_x : ∀ k : Fin 1024, B.x (ix2 p k) = aX m c (ix2 (row t p) k))
    (h_ng : B.ng = aNg m c)
    (h_win : B.win = aWin m c)
    (h_gql : B.gql = aGql m c)
    (h_wuq : B.wuq = aWuq m c)
    (h_gkv : B.gkv = aGkv m c)
    (h_wuk : B.wuk = aWuk m c)
    (h_wuv : B.wuv = aWuv m c)
    (h_e : B.e = aE m c)
    (h_cq : ∀ l : Fin 128, B.cq (ix2 p l) = aCq m c (ix2 (pos (row t p)) l))
    (h_sq : ∀ l : Fin 128, B.sq (ix2 p l) = aSq m c (ix2 (pos (row t p)) l))
    (h_ck : ∀ l : Fin 128, B.ck (ix2 p l) = aCk m c (ix2 (pos (row t p)) l))
    (h_sk : ∀ l : Fin 128, B.sk (ix2 p l) = aSk m c (ix2 (pos (row t p)) l))
    (h_gq : B.gq = aGq m c)
    (h_gqs : B.gqs = aGqs m c)
    (h_gk : B.gk = aGk m c)
    (h_gks : B.gks = aGks m c)
    (h_gkn : B.gkn = aGkn m c) :
    Reads (args m c) (batch (row t p)) (pos (row t p)) p B where
  x k := by rw [h_x]; exact aX_apply m c (row t p) k
  ng k := by rw [h_ng]; exact aNg_apply m c k
  win_low k j := by rw [h_win]; exact aWin_low m c k j
  win_key k i := by rw [h_win]; exact aWin_key m c k i
  win_swap k i := by rw [h_win]; exact aWin_swap m c k i
  win_high k j := by rw [h_win]; exact aWin_high m c k j
  gql k := by rw [h_gql]; exact aGql_apply m c k
  wuq_low k h l hl := by rw [h_wuq]; exact aWuq_low m c k h l hl
  wuq_swap k h i := by rw [h_wuq]; exact aWuq_swap m c k h i
  gkv k := by rw [h_gkv]; exact aGkv_apply m c k
  wuk_low k h d := by rw [h_wuk]; exact aWuk_low m c k h d
  wuk_pad k h d := by rw [h_wuk]; exact aWuk_pad m c k h d
  wuv_low k h d := by rw [h_wuv]; exact aWuv_low m c k h d
  wuv_pad k h d := by rw [h_wuv]; exact aWuv_pad m c k h d
  e off ho := by rw [h_e]; exact means m c off ho
  cq_nope d := by rw [h_cq]; exact aCq_nope m c (pos (row t p)) d
  cq_rope i := by rw [h_cq]; exact aCq_rope m c (pos (row t p)) i
  cq_pad i := by rw [h_cq]; exact aCq_pad m c (pos (row t p)) i
  sq_nope d := by rw [h_sq]; exact aSq_nope m c (pos (row t p)) d
  sq_rope i := by rw [h_sq]; exact aSq_rope m c (pos (row t p)) i
  sq_pad i := by rw [h_sq]; exact aSq_pad m c (pos (row t p)) i
  ck_rope i := by rw [h_ck]; exact aCk_rope m c (pos (row t p)) i
  ck_pad j h0 h1 := by rw [h_ck]; exact aCk_pad m c (pos (row t p)) j h0 h1
  sk_rope i := by rw [h_sk]; exact aSk_rope m c (pos (row t p)) i
  sk_pad j h0 h1 := by rw [h_sk]; exact aSk_pad m c (pos (row t p)) j h0 h1
  gq_nope d := by rw [h_gq]; exact aGq_nope m c d
  gq_rope i := by rw [h_gq]; exact aGq_rope m c i
  gqs_rope i := by rw [h_gqs]; exact aGqs_rope m c i
  gk_rope i := by rw [h_gk]; exact aGk_rope m c i
  gks_rope i := by rw [h_gks]; exact aGks_rope m c i
  gkn_nope d := by rw [h_gkn]; exact aGkn_nope m c d

end Cert.Proof.In

end
-- ==== Proof.InValue.lean ====
/-
  THE INPUT PROJECTIONS' KERNEL: what each block it stores holds, from the arguments.
-/
module

public import proofs.«01_k».proof.Proof.InToken
public import Idealize.ShloMosaic.Lib.Pipeline.ValueKit

@[expose] public section

set_option maxRecDepth 16384

noncomputable section

namespace Cert.Proof.In

open Cert.KernelInIdeal Cert.KernelInIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD) (t : Fin cfg0.N)

/-! ## Where the blocks lie -/

theorem idx_tok : ∀ t : Fin cfg0.N, win0_0.index t = ![t.val, 0] ∧ win0_9.index t = ![t.val % 16, 0] ∧ win0_10.index t = ![t.val % 16, 0]
    ∧ win0_11.index t = ![t.val % 16, 0] ∧ win0_12.index t = ![t.val % 16, 0] := by
  decide +kernel

theorem idx_whole : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_13.index t = ![0, 0]
    ∧ win0_14.index t = ![0, 0] ∧ win0_15.index t = ![0, 0] ∧ win0_16.index t = ![0, 0] ∧ win0_17.index t = ![0, 0] := by
  decide +kernel

theorem idx_out : ∀ t : Fin cfg0.N, win0_18.index t = ![t.val, 0] ∧ win0_19.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0] := by
  decide +kernel

theorem block_x (p : Fin 256) (k : Fin 1024) : (iblk m c 0 t : Vec Ideal S256x1024 .f32) (ix2 p k) = aX m c (ix2 (row t p) k) := by
  unfold row
  blk_ext [iblk, aX, idx_tok t]

theorem block_cq (p : Fin 256) (l : Fin 128) : (iblk m c 9 t : Vec Ideal S256x128 .f32) (ix2 p l) = aCq m c (ix2 (pos (row t p)) l) := by
  have := pos_row t p
  blk_ext [iblk, aCq, idx_tok t]

theorem block_sq (p : Fin 256) (l : Fin 128) : (iblk m c 10 t : Vec Ideal S256x128 .f32) (ix2 p l) = aSq m c (ix2 (pos (row t p)) l) := by
  have := pos_row t p
  blk_ext [iblk, aSq, idx_tok t]

theorem block_ck (p : Fin 256) (l : Fin 128) : (iblk m c 11 t : Vec Ideal S256x128 .f32) (ix2 p l) = aCk m c (ix2 (pos (row t p)) l) := by
  have := pos_row t p
  blk_ext [iblk, aCk, idx_tok t]

theorem block_sk (p : Fin 256) (l : Fin 128) : (iblk m c 12 t : Vec Ideal S256x128 .f32) (ix2 p l) = aSk m c (ix2 (pos (row t p)) l) := by
  have := pos_row t p
  blk_ext [iblk, aSk, idx_tok t]

theorem block_ng : (iblk m c 1 t : Vec Ideal S1x1024 .f32) = aNg m c := by
  funext y
  blk_ext [iblk, aNg, idx_whole t]

theorem block_win : (iblk m c 2 t : Vec Ideal S1024x2304 .bf16) = aWin m c := by
  funext y
  blk_ext [iblk, aWin, idx_whole t]

theorem block_gql : (iblk m c 3 t : Vec Ideal S1x384 .f32) = aGql m c := by
  funext y
  blk_ext [iblk, aGql, idx_whole t]

theorem block_wuq : (iblk m c 4 t : Vec Ideal S384x1024 .bf16) = aWuq m c := by
  funext y
  blk_ext [iblk, aWuq, idx_whole t]

theorem block_gkv : (iblk m c 5 t : Vec Ideal S1x256 .f32) = aGkv m c := by
  funext y
  blk_ext [iblk, aGkv, idx_whole t]

theorem block_wuk : (iblk m c 6 t : Vec Ideal S256x1024 .bf16) = aWuk m c := by
  funext y
  blk_ext [iblk, aWuk, idx_whole t]

theorem block_wuv : (iblk m c 7 t : Vec Ideal S256x1024 .bf16) = aWuv m c := by
  funext y
  blk_ext [iblk, aWuv, idx_whole t]

theorem block_e : (iblk m c 8 t : Vec Ideal S256x256 .bf16) = aE m c := by
  funext y
  blk_ext [iblk, aE, idx_whole t]

theorem block_gq : (iblk m c 13 t : Vec Ideal S1x128 .f32) = aGq m c := by
  funext y
  blk_ext [iblk, aGq, idx_whole t]

theorem block_gqs : (iblk m c 14 t : Vec Ideal S1x128 .f32) = aGqs m c := by
  funext y
  blk_ext [iblk, aGqs, idx_whole t]

theorem block_gk : (iblk m c 15 t : Vec Ideal S1x128 .f32) = aGk m c := by
  funext y
  blk_ext [iblk, aGk, idx_whole t]

theorem block_gks : (iblk m c 16 t : Vec Ideal S1x128 .f32) = aGks m c := by
  funext y
  blk_ext [iblk, aGks, idx_whole t]

theorem block_gkn : (iblk m c 17 t : Vec Ideal S1x128 .f32) = aGkn m c := by
  funext y
  blk_ext [iblk, aGkn, idx_whole t]

end Cert.Proof.In

end
-- ==== Proof.InFinal.lean ====
/-
  THE INPUT PROJECTIONS' KERNEL: the arrays it leaves, from the arguments.
-/
module

public import proofs.«01_k».proof.Proof.InToken
public import Idealize.ShloMosaic.Lib.Pipeline.ValueKit

@[expose] public section

set_option maxRecDepth 16384

noncomputable section

namespace Cert.Proof.In

open Cert.KernelInIdeal Cert.KernelInIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

theorem idx_out : ∀ t : Fin cfg0.N, win0_18.index t = ![t.val, 0] ∧ win0_19.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0] := by
  decide +kernel

/-- The input blocks of a point. -/
def blocks (t : Fin cfg0.N) : Blocks where
  x := iblk m c 0 t
  ng := iblk m c 1 t
  win := iblk m c 2 t
  gql := iblk m c 3 t
  wuq := iblk m c 4 t
  gkv := iblk m c 5 t
  wuk := iblk m c 6 t
  wuv := iblk m c 7 t
  e := iblk m c 8 t
  cq := iblk m c 9 t
  sq := iblk m c 10 t
  ck := iblk m c 11 t
  sk := iblk m c 12 t
  gq := iblk m c 13 t
  gqs := iblk m c 14 t
  gk := iblk m c 15 t
  gks := iblk m c 16 t
  gkn := iblk m c 17 t

attribute [local irreducible] iblk out0_18 out0_19 out0_20 out0_21 out0_22 out0_23 out0_24 out0_25 lat kr qhead khead vhead proj

variable (R : ∀ (t : Fin cfg0.N) (p : Fin 256), Reads (args m c) (batch (row t p)) (pos (row t p)) p (blocks m c t))
include R

theorem at_18 (t : Fin cfg0.N) (p : Fin 256) (j : Fin 256) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outLat (args m c) (ix2 (row t p) j) := by
  have h := out_lat (R t p) j
  unfold blocks at h
  exact h

theorem final_18 : (dats m 0 c).arrAt 18 cfg0.N = outLat (args m c) := by
  refine (dats m 0 c).arrAt_eq_of_covers 18 _ (by decide +kernel) fun t hf y => ?_
  have hi : ((View.whole main_v72_0).slice (win0_18.rect t)).emb y = (ix2 (row t (y 0)) (y 1) : S65536x256.Idx) := by
    unfold row
    blk_ext [idx_out t]
  blk_simp
  rw [after0_18, hi]
  have hy : y = (ix2 (y 0) (y 1) : S256x256.Idx) := funext fun a => match a with | ⟨0, _⟩ => rfl | ⟨1, _⟩ => rfl
  exact (congrArg _ hy).trans (out_lat (R t (y 0)) (y 1))

theorem at_19 (t : Fin cfg0.N) (p : Fin 256) (j : Fin 32) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outKr (args m c) (ix2 (row t p) j) := by
  have h := out_kr (R t p) j
  unfold blocks at h
  exact h

theorem final_19 : (dats m 0 c).arrAt 19 cfg0.N = outKr (args m c) := by
  refine (dats m 0 c).arrAt_eq_of_covers 19 _ (by decide +kernel) fun t hf y => ?_
  have hi : ((View.whole main_v72_1).slice (win0_19.rect t)).emb y = (ix2 (row t (y 0)) (y 1) : S65536x32.Idx) := by
    unfold row
    blk_ext [idx_out t]
  blk_simp
  rw [after0_19, hi]
  have hy : y = (ix2 (y 0) (y 1) : S256x32.Idx) := funext fun a => match a with | ⟨0, _⟩ => rfl | ⟨1, _⟩ => rfl
  exact (congrArg _ hy).trans (out_kr (R t (y 0)) (y 1))

theorem at_20 (t : Fin cfg0.N) (p : Fin 256) (j : Fin 1024) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outQ (args m c) (ix2 (row t p) j) := by
  have h := out_query (R t p) j
  unfold blocks at h
  exact h

theorem final_20 : (dats m 0 c).arrAt 20 cfg0.N = outQ (args m c) := by
  refine (dats m 0 c).arrAt_eq_of_covers 20 _ (by decide +kernel) fun t hf y => ?_
  have hi : ((View.whole main_v72_2).slice (win0_20.rect t)).emb y = (ix2 (row t (y 0)) (y 1) : S65536x1024.Idx) := by
    unfold row
    blk_ext [idx_out t]
  blk_simp
  rw [after0_20, hi]
  have hy : y = (ix2 (y 0) (y 1) : S256x1024.Idx) := funext fun a => match a with | ⟨0, _⟩ => rfl | ⟨1, _⟩ => rfl
  exact (congrArg _ hy).trans (out_query (R t (y 0)) (y 1))

theorem at_21 (t : Fin cfg0.N) (p : Fin 256) (j : Fin 1024) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outK (args m c) (ix2 (row t p) j) := by
  have h := out_key (R t p) j
  unfold blocks at h
  exact h

theorem final_21 : (dats m 0 c).arrAt 21 cfg0.N = outK (args m c) := by
  refine (dats m 0 c).arrAt_eq_of_covers 21 _ (by decide +kernel) fun t hf y => ?_
  have hi : ((View.whole main_v72_3).slice (win0_21.rect t)).emb y = (ix2 (row t (y 0)) (y 1) : S65536x1024.Idx) := by
    unfold row
    blk_ext [idx_out t]
  blk_simp
  rw [after0_21, hi]
  have hy : y = (ix2 (y 0) (y 1) : S256x1024.Idx) := funext fun a => match a with | ⟨0, _⟩ => rfl | ⟨1, _⟩ => rfl
  exact (congrArg _ hy).trans (out_key (R t (y 0)) (y 1))

theorem at_22 (t : Fin cfg0.N) (p : Fin 256) (j : Fin 1024) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outV (args m c) (ix2 (row t p) j) := by
  have h := out_value (R t p) j
  unfold blocks at h
  exact h

theorem final_22 : (dats m 0 c).arrAt 22 cfg0.N = outV (args m c) := by
  refine (dats m 0 c).arrAt_eq_of_covers 22 _ (by decide +kernel) fun t hf y => ?_
  have hi : ((View.whole main_v72_4).slice (win0_22.rect t)).emb y = (ix2 (row t (y 0)) (y 1) : S65536x1024.Idx) := by
    unfold row
    blk_ext [idx_out t]
  blk_simp
  rw [after0_22, hi]
  have hy : y = (ix2 (y 0) (y 1) : S256x1024.Idx) := funext fun a => match a with | ⟨0, _⟩ => rfl | ⟨1, _⟩ => rfl
  exact (congrArg _ hy).trans (out_value (R t (y 0)) (y 1))

theorem at_23 (t : Fin cfg0.N) (p : Fin 256) (j : Fin 512) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outG (args m c) (ix2 (row t p) j) := by
  have h := out_gate (R t p) j
  unfold blocks at h
  exact h

theorem final_23 : (dats m 0 c).arrAt 23 cfg0.N = outG (args m c) := by
  refine (dats m 0 c).arrAt_eq_of_covers 23 _ (by decide +kernel) fun t hf y => ?_
  have hi : ((View.whole main_v72_5).slice (win0_23.rect t)).emb y = (ix2 (row t (y 0)) (y 1) : S65536x512.Idx) := by
    unfold row
    blk_ext [idx_out t]
  blk_simp
  rw [after0_23, hi]
  have hy : y = (ix2 (y 0) (y 1) : S256x512.Idx) := funext fun a => match a with | ⟨0, _⟩ => rfl | ⟨1, _⟩ => rfl
  exact (congrArg _ hy).trans (out_gate (R t (y 0)) (y 1))

theorem at_24 (t : Fin cfg0.N) (p : Fin 256) (j : Fin 512) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outU (args m c) (ix2 (row t p) j) := by
  have h := out_u (R t p) j
  unfold blocks at h
  exact h

theorem final_24 : (dats m 0 c).arrAt 24 cfg0.N = outU (args m c) := by
  refine (dats m 0 c).arrAt_eq_of_covers 24 _ (by decide +kernel) fun t hf y => ?_
  have hi : ((View.whole main_v72_6).slice (win0_24.rect t)).emb y = (ix2 (row t (y 0)) (y 1) : S65536x512.Idx) := by
    unfold row
    blk_ext [idx_out t]
  blk_simp
  rw [after0_24, hi]
  have hy : y = (ix2 (y 0) (y 1) : S256x512.Idx) := funext fun a => match a with | ⟨0, _⟩ => rfl | ⟨1, _⟩ => rfl
  exact (congrArg _ hy).trans (out_u (R t (y 0)) (y 1))

theorem at_25 (t : Fin cfg0.N) (p : Fin 256) (j : Fin 512) :
    out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 p j) = outS (args m c) (ix2 (row t p) j) := by
  have h := out_state (R t p) j
  unfold blocks at h
  exact h

theorem final_25 : (dats m 0 c).arrAt 25 cfg0.N = outS (args m c) := by
  refine (dats m 0 c).arrAt_eq_of_covers 25 _ (by decide +kernel) fun t hf y => ?_
  have hi : ((View.whole main_v72_7).slice (win0_25.rect t)).emb y = (ix2 (row t (y 0)) (y 1) : S65536x512.Idx) := by
    unfold row
    blk_ext [idx_out t]
  blk_simp
  rw [after0_25, hi]
  have hy : y = (ix2 (y 0) (y 1) : S256x512.Idx) := funext fun a => match a with | ⟨0, _⟩ => rfl | ⟨1, _⟩ => rfl
  exact (congrArg _ hy).trans (out_state (R t (y 0)) (y 1))

end Cert.Proof.In

end
-- ==== Proof.InRef.lean ====
/-
  THE INPUT PROJECTIONS' REFERENCE, read at one token: the same rows.
-/
module

public import proofs.«01_k».proof.Proof.InMath
public import proofs.«01_k».proof.Proof.Gen.ReferenceInIdeal.Read
public import Idealize.ShloMosaic.Lib.Pointwise
public import Idealize.ShloMosaic.Lib.IdealHost

@[expose] public section

set_option maxRecDepth 16384

noncomputable section

namespace Cert.Proof.In

open Idealize.ShloMosaic Idealize.ShloMosaic.TcCoe Idealize.ShloMosaic.Tactic
open Cert.ReferenceInIdeal.Read Cert.ReferenceInIdeal.Gen

variable (A : Args) (b : Fin 16) (q : Fin 4096) (h : Fin 8)

theorem ref_hid (k : Fin 1024) : val_main_v12 (F := Ideal) A.x A.ng (ix3 b q k) = hid A b q k := by
  unfold hid inv
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_proj (j : Fin 2208) : val_main_v13 (F := Ideal) A.x A.ng A.win (ix3 b q j) = proj A b q j := by
  rw [val_main_v13_apply]
  refine Finset.sum_congr rfl fun k _ => congrArg₂ (· * ·) ((congrArg _ (funext fun a => ?_)).trans (ref_hid A b q k)) (congrArg A.win (funext fun a => ?_))
  · match a with | ⟨0, _⟩ => rfl | ⟨1, _⟩ => rfl | ⟨2, _⟩ => rfl
  · match a with | ⟨0, _⟩ => rfl | ⟨1, _⟩ => rfl

theorem ref_lat (j : Fin 256) : val_main_v32 (F := Ideal) A.x A.ng A.win A.gkv (ix3 b q j) = lat A b q j := by
  have e : val_main_v32 (F := Ideal) A.x A.ng A.win A.gkv (ix3 b q j)
      = val_main_v13 (F := Ideal) A.x A.ng A.win (ix3 b q ⟨384 + j.val, by omega⟩) * inv 0x43800000#32 (fun j : Fin 256 => val_main_v13 (F := Ideal) A.x A.ng A.win (ix3 b q ⟨384 + j.val, by omega⟩)) * A.gkv (ix1 j) := by
    unfold inv
    pointwise [val_main_v32, val_main_v31, val_main_v30, val_main_v29, val_main_v28, val_main_v27, val_main_v26, val_main_v25, val_main_v24, val_main_v23, val_main_v22, val_main_v21, val_main_v20, val_main_v15, val_main_cst_2, val_main_cst_3, val_main_cst_4]
  rw [e]
  simp only [ref_proj]
  rfl

theorem ref_knorm (j : Fin 32) : (val_main_v45 (F := Ideal) A.x A.ng A.win A.gkr) (ix3 b q j) = kraw A b q j * inv 0x42000000#32 (kraw A b q) * A.gkr (ix1 j) := by
  have e : (val_main_v45 (F := Ideal) A.x A.ng A.win A.gkr) (ix3 b q j)
      = val_main_v13 (F := Ideal) A.x A.ng A.win (ix3 b q ⟨640 + j.val, by omega⟩) * inv 0x42000000#32 (fun j : Fin 32 => val_main_v13 (F := Ideal) A.x A.ng A.win (ix3 b q ⟨640 + j.val, by omega⟩)) * A.gkr (ix1 j) := by
    unfold inv
    pointwise [val_main_v45, val_main_v44, val_main_v43, val_main_v42, val_main_v41, val_main_v40, val_main_v39, val_main_v38, val_main_v37, val_main_v36, val_main_v35, val_main_v34, val_main_v33, val_main_v16, val_main_cst_5, val_main_cst_6, val_main_cst_7]
  rw [e]
  simp only [ref_proj]
  rfl

theorem ref_qnorm (j : Fin 384) : (val_main_v79 (F := Ideal) A.x A.ng A.win A.gql) (ix3 b q j) = qnorm A b q j := by
  have e : (val_main_v79 (F := Ideal) A.x A.ng A.win A.gql) (ix3 b q j)
      = val_main_v13 (F := Ideal) A.x A.ng A.win (ix3 b q ⟨j.val, by omega⟩) * inv 0x43C00000#32 (fun j : Fin 384 => val_main_v13 (F := Ideal) A.x A.ng A.win (ix3 b q ⟨j.val, by omega⟩)) * A.gql (ix1 j) := by
    unfold inv
    pointwise [val_main_v79, val_main_v78, val_main_v77, val_main_v76, val_main_v75, val_main_v74, val_main_v73, val_main_v72, val_main_v71, val_main_v70, val_main_v69, val_main_v68, val_main_v67, val_main_v14, val_main_cst_8, val_main_cst_9, val_main_cst_10]
  rw [e]
  simp only [ref_proj]
  rfl

theorem ref_kr (i : Fin 32) : (val_main_v66 (F := Ideal) A.x A.cos A.sin A.ng A.win A.gkr) (ix3 b q i) = kr A b q i := by
  have e : (val_main_v66 (F := Ideal) A.x A.cos A.sin A.ng A.win A.gkr) (ix3 b q i) = rope (fun j => (val_main_v45 (F := Ideal) A.x A.ng A.win A.gkr) (ix3 b q j)) (cosRow A q) (sinRow A q) i := by
    unfold rope swap cosRow sinRow
    by_cases hi : i.val < 16
    · rw [dif_pos hi, dif_pos hi]
      pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46]
      rw [dif_pos hi]
      have e : (⟨16 + i.val, by omega⟩ : Fin 32) = ⟨i.val + 16, by omega⟩ := Fin.ext (Nat.add_comm _ _)
      simp only [e]
    · rw [dif_neg hi, dif_neg hi]
      pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46]
      rw [dif_neg hi]
      have e : (⟨16 + (i.val - 16), by omega⟩ : Fin 32) = i := Fin.ext (by simp only; omega)
      simp only [e]
  rw [e]
  simp only [ref_knorm]
  rfl

theorem ref_q (d : Fin 96) : (val_main_v81 (F := Ideal) A.x A.ng A.win A.gql A.wuq) (ix4 b q h d) = qcol A b q h d.val d.isLt := by
  have e : (val_main_v81 (F := Ideal) A.x A.ng A.win A.gql A.wuq) (ix4 b q h d) = (val_main_v80 (F := Ideal) A.x A.ng A.win A.gql A.wuq) (ix3 b q ⟨96 * h.val + d.val, by omega⟩) := by
    pointwise [val_main_v81]
    exact congrArg (fun j => (val_main_v80 (F := Ideal) A.x A.ng A.win A.gql A.wuq) (ix3 b q j)) (Fin.ext (congrArg (· + d.val) (Nat.mul_comm h.val 96)))
  rw [e, val_main_v80_apply]
  refine Finset.sum_congr rfl fun k _ => congrArg₂ (· * ·) ((congrArg _ (funext fun a => ?_)).trans (ref_qnorm A b q k)) (congrArg A.wuq (funext fun a => ?_))
  · match a with | ⟨0, _⟩ => rfl | ⟨1, _⟩ => rfl | ⟨2, _⟩ => rfl
  · match a with | ⟨0, _⟩ => rfl | ⟨1, _⟩ => rfl

theorem ref_qnope (d : Fin 64) : (val_main_v95 (F := Ideal) A.x A.ng A.win A.gql A.wuq A.gqn) (ix4 b q h d) = qnope A b q h d * inv 0x42800000#32 (qnope A b q h) * A.gqn (ix1 d) := by
  have e : (val_main_v95 (F := Ideal) A.x A.ng A.win A.gql A.wuq A.gqn) (ix4 b q h d)
      = (val_main_v81 (F := Ideal) A.x A.ng A.win A.gql A.wuq) (ix4 b q h ⟨d.val, by omega⟩) * inv 0x42800000#32 (fun d : Fin 64 => (val_main_v81 (F := Ideal) A.x A.ng A.win A.gql A.wuq) (ix4 b q h ⟨d.val, by omega⟩)) * A.gqn (ix1 d) := by
    unfold inv
    pointwise [val_main_v95, val_main_v94, val_main_v93, val_main_v92, val_main_v91, val_main_v90, val_main_v89, val_main_v88, val_main_v87, val_main_v86, val_main_v85, val_main_v84, val_main_v83, val_main_v82, val_main_cst_11, val_main_cst_12, val_main_cst_13]
  rw [e]
  simp only [ref_q]
  rfl

theorem ref_qrope (d : Fin 32) : (val_main_v109 (F := Ideal) A.x A.ng A.win A.gql A.wuq A.gqr) (ix4 b q h d) = qrope A b q h d * inv 0x42000000#32 (qrope A b q h) * A.gqr (ix1 d) := by
  have e : (val_main_v109 (F := Ideal) A.x A.ng A.win A.gql A.wuq A.gqr) (ix4 b q h d)
      = (val_main_v81 (F := Ideal) A.x A.ng A.win A.gql A.wuq) (ix4 b q h ⟨64 + d.val, by omega⟩) * inv 0x42000000#32 (fun d : Fin 32 => (val_main_v81 (F := Ideal) A.x A.ng A.win A.gql A.wuq) (ix4 b q h ⟨64 + d.val, by omega⟩)) * A.gqr (ix1 d) := by
    unfold inv
    pointwise [val_main_v109, val_main_v108, val_main_v107, val_main_v106, val_main_v105, val_main_v104, val_main_v103, val_main_v102, val_main_v101, val_main_v100, val_main_v99, val_main_v98, val_main_v97, val_main_v96, val_main_cst_14, val_main_cst_15, val_main_cst_16]
  rw [e]
  simp only [ref_q]
  rfl

theorem ref_qrot (i : Fin 32) : (val_main_v128 (F := Ideal) A.x A.cos A.sin A.ng A.win A.gql A.wuq A.gqr) (ix4 b q h i)
    = rope (fun j => qrope A b q h j * inv 0x42000000#32 (qrope A b q h) * A.gqr (ix1 j)) (cosRow A q) (sinRow A q) i := by
  have e : (val_main_v128 (F := Ideal) A.x A.cos A.sin A.ng A.win A.gql A.wuq A.gqr) (ix4 b q h i) = rope (fun j => (val_main_v109 (F := Ideal) A.x A.ng A.win A.gql A.wuq A.gqr) (ix4 b q h j)) (cosRow A q) (sinRow A q) i := by
    unfold rope swap cosRow sinRow
    by_cases hi : i.val < 16
    · rw [dif_pos hi, dif_pos hi]
      pointwise [val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110]
      rw [dif_pos hi]
      have e : (⟨16 + i.val, by omega⟩ : Fin 32) = ⟨i.val + 16, by omega⟩ := Fin.ext (Nat.add_comm _ _)
      simp only [e]
    · rw [dif_neg hi, dif_neg hi]
      pointwise [val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110]
      rw [dif_neg hi]
      have e : (⟨16 + (i.val - 16), by omega⟩ : Fin 32) = i := Fin.ext (by simp only; omega)
      simp only [e]
  rw [e]
  simp only [ref_qrope]

theorem ref_k (d : Fin 64) : (val_main_v129 (F := Ideal) A.x A.ng A.win A.gkv A.wuk) (ix4 b q h d) = kcol A b q h d := by
  rw [val_main_v129_apply]
  refine Finset.sum_congr rfl fun k _ => congrArg₂ (· * ·) ((congrArg _ (funext fun a => ?_)).trans (ref_lat A b q k)) (congrArg A.wuk (funext fun a => ?_))
  · match a with | ⟨0, _⟩ => rfl | ⟨1, _⟩ => rfl | ⟨2, _⟩ => rfl
  · match a with | ⟨0, _⟩ => rfl | ⟨1, _⟩ => rfl | ⟨2, _⟩ => rfl

theorem ref_knope (d : Fin 64) : (val_main_v142 (F := Ideal) A.x A.ng A.win A.gkv A.wuk A.gkn) (ix4 b q h d) = kcol A b q h d * inv 0x42800000#32 (kcol A b q h) * A.gkn (ix1 d) := by
  have e : (val_main_v142 (F := Ideal) A.x A.ng A.win A.gkv A.wuk A.gkn) (ix4 b q h d) = (val_main_v129 (F := Ideal) A.x A.ng A.win A.gkv A.wuk) (ix4 b q h d) * inv 0x42800000#32 (fun d : Fin 64 => (val_main_v129 (F := Ideal) A.x A.ng A.win A.gkv A.wuk) (ix4 b q h d)) * A.gkn (ix1 d) := by
    unfold inv
    pointwise [val_main_v142, val_main_v141, val_main_v140, val_main_v139, val_main_v138, val_main_v137, val_main_v136, val_main_v135, val_main_v134, val_main_v133, val_main_v132, val_main_v131, val_main_v130, val_main_cst_17, val_main_cst_18, val_main_cst_19]
  rw [e]
  simp only [ref_k]

theorem ref_v (d : Fin 64) : (val_main_v143 (F := Ideal) A.x A.ng A.win A.gkv A.wuv) (ix4 b q h d) = ∑ k : Fin 256, lat A b q k * A.wuv (ix3 k h d) := by
  rw [val_main_v143_apply]
  refine Finset.sum_congr rfl fun k _ => congrArg₂ (· * ·) ((congrArg _ (funext fun a => ?_)).trans (ref_lat A b q k)) (congrArg A.wuv (funext fun a => ?_))
  · match a with | ⟨0, _⟩ => rfl | ⟨1, _⟩ => rfl | ⟨2, _⟩ => rfl
  · match a with | ⟨0, _⟩ => rfl | ⟨1, _⟩ => rfl | ⟨2, _⟩ => rfl

/-! ## The heads, padded -/

theorem ref_qhead (l : Fin 128) : (val_main_v151 (F := Ideal) A.x A.cos A.sin A.ng A.win A.gql A.wuq A.gqn A.gqr) (ix4 b q h l) = qhead A b q h l := by
  have e : (val_main_v151 (F := Ideal) A.x A.cos A.sin A.ng A.win A.gql A.wuq A.gqn A.gqr) (ix4 b q h l)
      = if hl : l.val < 64 then (val_main_v95 (F := Ideal) A.x A.ng A.win A.gql A.wuq A.gqn) (ix4 b q h ⟨l.val, hl⟩) * scale
        else if hr : l.val < 96 then (val_main_v128 (F := Ideal) A.x A.cos A.sin A.ng A.win A.gql A.wuq A.gqr) (ix4 b q h ⟨l.val - 64, by omega⟩) * scale
        else 0 := by
    split_ifs
    all_goals pointwise [val_main_v151, val_main_v150, val_main_v149, val_main_v148, val_main_v147, val_main_v146, val_main_cst_20, val_main_cst_21, val_main_cst_22]
    all_goals repeat first | rw [dif_pos (by omega)] | rw [dif_neg (by omega)]
  rw [e]
  simp only [ref_qnope, ref_qrot]
  rfl

theorem ref_khead (l : Fin 128) : (val_main_v153 (F := Ideal) A.x A.cos A.sin A.ng A.win A.gkv A.wuk A.gkn A.gkr) (ix4 b q h l) = khead A b q h l := by
  have e : (val_main_v153 (F := Ideal) A.x A.cos A.sin A.ng A.win A.gkv A.wuk A.gkn A.gkr) (ix4 b q h l)
      = if hl : l.val < 64 then (val_main_v142 (F := Ideal) A.x A.ng A.win A.gkv A.wuk A.gkn) (ix4 b q h ⟨l.val, hl⟩)
        else if hr : l.val < 96 then (val_main_v66 (F := Ideal) A.x A.cos A.sin A.ng A.win A.gkr) (ix3 b q ⟨l.val - 64, by omega⟩)
        else 0 := by
    split_ifs
    all_goals pointwise [val_main_v153, val_main_v152, val_main_v145, val_main_v144, val_main_cst_23]
    all_goals repeat first | rw [dif_pos (by omega)] | rw [dif_neg (by omega)]
  rw [e]
  simp only [ref_knope, ref_kr]
  rfl

theorem ref_vhead (l : Fin 128) : (val_main_v155 (F := Ideal) A.x A.ng A.win A.gkv A.wuv) (ix4 b q h l) = vhead A b q h l := by
  have e : (val_main_v155 (F := Ideal) A.x A.ng A.win A.gkv A.wuv) (ix4 b q h l) = if hl : l.val < 64 then (val_main_v143 (F := Ideal) A.x A.ng A.win A.gkv A.wuv) (ix4 b q h ⟨l.val, hl⟩) else 0 := by
    split_ifs
    all_goals pointwise [val_main_v155, val_main_v154, val_main_cst_24]
    all_goals repeat first | rw [dif_pos (by omega)] | rw [dif_neg (by omega)]
  rw [e]
  simp only [ref_v]
  rfl

/-! ## The results -/

theorem result_lat : val_main_v156 (F := Ideal) A.x A.ng A.win A.gkv = outLat A := by
  funext i
  obtain ⟨r, j, rfl⟩ : ∃ (r : Fin 65536) (j : Fin 256), i = ix2 r j := ⟨i 0, i 1, funext fun a => match a with | ⟨0, _⟩ => rfl | ⟨1, _⟩ => rfl⟩
  have e : val_main_v156 (F := Ideal) A.x A.ng A.win A.gkv (ix2 r j) = (val_main_v32 (F := Ideal) A.x A.ng A.win A.gkv) (ix3 (batch r) (pos r) j) := by
    unfold batch pos
    pointwise [val_main_v156]
  rw [e, ref_lat]
  rfl

theorem result_kr : val_main_v157 (F := Ideal) A.x A.cos A.sin A.ng A.win A.gkr = outKr A := by
  funext i
  obtain ⟨r, j, rfl⟩ : ∃ (r : Fin 65536) (j : Fin 32), i = ix2 r j := ⟨i 0, i 1, funext fun a => match a with | ⟨0, _⟩ => rfl | ⟨1, _⟩ => rfl⟩
  have e : val_main_v157 (F := Ideal) A.x A.cos A.sin A.ng A.win A.gkr (ix2 r j) = (val_main_v66 (F := Ideal) A.x A.cos A.sin A.ng A.win A.gkr) (ix3 (batch r) (pos r) j) := by
    unfold batch pos
    pointwise [val_main_v157]
  rw [e, ref_kr]
  rfl

theorem result_q : val_main_v159 (F := Ideal) A.x A.cos A.sin A.ng A.win A.gql A.wuq A.gqn A.gqr = outQ A := by
  funext i
  obtain ⟨r, j, rfl⟩ : ∃ (r : Fin 65536) (j : Fin 1024), i = ix2 r j := ⟨i 0, i 1, funext fun a => match a with | ⟨0, _⟩ => rfl | ⟨1, _⟩ => rfl⟩
  have e : val_main_v159 (F := Ideal) A.x A.cos A.sin A.ng A.win A.gql A.wuq A.gqn A.gqr (ix2 r j) = (val_main_v151 (F := Ideal) A.x A.cos A.sin A.ng A.win A.gql A.wuq A.gqn A.gqr) (ix4 (batch r) (pos r) (head j) (lane j)) := by
    unfold batch pos head lane
    pointwise [val_main_v159, val_main_v158]
  rw [e, ref_qhead]
  rfl

theorem result_k : val_main_v161 (F := Ideal) A.x A.cos A.sin A.ng A.win A.gkv A.wuk A.gkn A.gkr = outK A := by
  funext i
  obtain ⟨r, j, rfl⟩ : ∃ (r : Fin 65536) (j : Fin 1024), i = ix2 r j := ⟨i 0, i 1, funext fun a => match a with | ⟨0, _⟩ => rfl | ⟨1, _⟩ => rfl⟩
  have e : val_main_v161 (F := Ideal) A.x A.cos A.sin A.ng A.win A.gkv A.wuk A.gkn A.gkr (ix2 r j) = (val_main_v153 (F := Ideal) A.x A.cos A.sin A.ng A.win A.gkv A.wuk A.gkn A.gkr) (ix4 (batch r) (pos r) (head j) (lane j)) := by
    unfold batch pos head lane
    pointwise [val_main_v161, val_main_v160]
  rw [e, ref_khead]
  rfl

theorem result_v : val_main_v163 (F := Ideal) A.x A.ng A.win A.gkv A.wuv = outV A := by
  funext i
  obtain ⟨r, j, rfl⟩ : ∃ (r : Fin 65536) (j : Fin 1024), i = ix2 r j := ⟨i 0, i 1, funext fun a => match a with | ⟨0, _⟩ => rfl | ⟨1, _⟩ => rfl⟩
  have e : val_main_v163 (F := Ideal) A.x A.ng A.win A.gkv A.wuv (ix2 r j) = (val_main_v155 (F := Ideal) A.x A.ng A.win A.gkv A.wuv) (ix4 (batch r) (pos r) (head j) (lane j)) := by
    unfold batch pos head lane
    pointwise [val_main_v163, val_main_v162]
  rw [e, ref_vhead]
  rfl

theorem result_gate : val_main_v164 (F := Ideal) A.x A.ng A.win = outG A := by
  funext i
  obtain ⟨r, j, rfl⟩ : ∃ (r : Fin 65536) (j : Fin 512), i = ix2 r j := ⟨i 0, i 1, funext fun a => match a with | ⟨0, _⟩ => rfl | ⟨1, _⟩ => rfl⟩
  have e : val_main_v164 (F := Ideal) A.x A.ng A.win (ix2 r j) = (val_main_v13 (F := Ideal) A.x A.ng A.win) (ix3 (batch r) (pos r) ⟨672 + j.val, by omega⟩) := by
    unfold batch pos
    pointwise [val_main_v164, val_main_v17]
  rw [e, ref_proj]
  rfl

theorem result_u : val_main_v165 (F := Ideal) A.x A.ng A.win = outU A := by
  funext i
  obtain ⟨r, j, rfl⟩ : ∃ (r : Fin 65536) (j : Fin 512), i = ix2 r j := ⟨i 0, i 1, funext fun a => match a with | ⟨0, _⟩ => rfl | ⟨1, _⟩ => rfl⟩
  have e : val_main_v165 (F := Ideal) A.x A.ng A.win (ix2 r j) = (val_main_v13 (F := Ideal) A.x A.ng A.win) (ix3 (batch r) (pos r) ⟨1184 + j.val, by omega⟩) := by
    unfold batch pos
    pointwise [val_main_v165, val_main_v18]
  rw [e, ref_proj]
  rfl

theorem result_state : val_main_v166 (F := Ideal) A.x A.ng A.win = outS A := by
  funext i
  obtain ⟨r, j, rfl⟩ : ∃ (r : Fin 65536) (j : Fin 512), i = ix2 r j := ⟨i 0, i 1, funext fun a => match a with | ⟨0, _⟩ => rfl | ⟨1, _⟩ => rfl⟩
  have e : val_main_v166 (F := Ideal) A.x A.ng A.win (ix2 r j) = (val_main_v13 (F := Ideal) A.x A.ng A.win) (ix3 (batch r) (pos r) ⟨1696 + j.val, by omega⟩) := by
    unfold batch pos
    pointwise [val_main_v166, val_main_v19]
  rw [e, ref_proj]
  rfl

end Cert.Proof.In

end
-- ==== Proof.InClaims.lean ====
/-
  THE INPUT PROJECTIONS' CLAIMS: the reference's frame, and the kernel's and the reference's results the same arrays.
-/
module

public import proofs.«01_k».proof.Defs
public import proofs.«01_k».proof.Proof.InRunIdeal
public import proofs.«01_k».proof.Proof.InValue
public import proofs.«01_k».proof.Proof.InFinal
public import proofs.«01_k».proof.Proof.InRef
public import proofs.«01_k».proof.Proof.Gen.ReferenceInIdeal.Run
public import Idealize.ShloMosaic.Lib.Quiescent

@[expose] public section

set_option maxRecDepth 16384

noncomputable section

namespace Cert.Proof.In

open Idealize.ShloMosaic Idealize.ShloMosaic.TcCoe Idealize.SL Idealize.SL.Sem

theorem frame_reference : Cert.quiescent_ReferenceInIdeal := fun m ρ _ =>
  (θ_run (Cert.ReferenceInIdeal.defs (F := Ideal)) _ _).mono (fun r h => ⟨fun c => (h c).2.2.2.2.2.2.2.2, sem_eq_zero_of_no_sems (by decide) r.2⟩)
    (Cert.ReferenceInIdeal.Value.run (F := Ideal) m ρ)

section

open Cert.KernelInIdeal Cert.KernelInIdeal.Gen

attribute [local irreducible] iblk

/-- What the blocks of every point hold. -/
theorem reads (m : (ℓ : Loc nD τ sig) → Buf (Elt Ideal) ℓ) (c : Dev nD) (t : Fin cfg0.N) (p : Fin 256) :
    Reads (args m c) (batch (row t p)) (pos (row t p)) p (blocks m c t) :=
  reads_of m c t (blocks m c t) p (block_x m c t p) (block_ng m c t) (block_win m c t) (block_gql m c t) (block_wuq m c t) (block_gkv m c t) (block_wuk m c t) (block_wuv m c t) (block_e m c t) (block_cq m c t p) (block_sq m c t p) (block_ck m c t p) (block_sk m c t p) (block_gq m c t) (block_gqs m c t) (block_gk m c t) (block_gks m c t) (block_gkn m c t)

set_option maxHeartbeats 1000000 in
/-- The kernel's run: each result in closed form, and the arguments unchanged. -/
theorem run_closed (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72_0) = outLat (args m c)
      ∧ r.2.mem ((c.tc : Thread nD τ).loc main_v72_1) = outKr (args m c)
      ∧ r.2.mem ((c.tc : Thread nD τ).loc main_v72_2) = outQ (args m c)
      ∧ r.2.mem ((c.tc : Thread nD τ).loc main_v72_3) = outK (args m c)
      ∧ r.2.mem ((c.tc : Thread nD τ).loc main_v72_4) = outV (args m c)
      ∧ r.2.mem ((c.tc : Thread nD τ).loc main_v72_5) = outG (args m c)
      ∧ r.2.mem ((c.tc : Thread nD τ).loc main_v72_6) = outU (args m c)
      ∧ r.2.mem ((c.tc : Thread nD τ).loc main_v72_7) = outS (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    ⟨((h c).1 18).trans (final_18 m c (reads m c)),
      ((h c).1 19).trans (final_19 m c (reads m c)),
      ((h c).1 20).trans (final_20 m c (reads m c)),
      ((h c).1 21).trans (final_21 m c (reads m c)),
      ((h c).1 22).trans (final_22 m c (reads m c)),
      ((h c).1 23).trans (final_23 m c (reads m c)),
      ((h c).1 24).trans (final_24 m c (reads m c)),
      ((h c).1 25).trans (final_25 m c (reads m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end

open Cert.ReferenceInIdeal.Read Cert.ReferenceInIdeal.Gen

theorem algebraic : Cert.algebraic_KernelInIdeal_ReferenceInIdeal := by
  intro m ρ m' ρ' _ hagree
  refine ⟨fun c => outLat (args m c), fun c => outKr (args m c), fun c => outQ (args m c), fun c => outK (args m c), fun c => outV (args m c), fun c => outG (args m c), fun c => outU (args m c), fun c => outS (args m c), run_closed m ρ, ?_⟩
  refine (θ_run _ _ _).mono (fun r h c => ?_) (Cert.ReferenceInIdeal.Value.run (F := Ideal) m' ρ')
  obtain ⟨e0, e1, e2, e3, e4, e5, e6, e7, e8, e9, e10, e11, e12, e13⟩ := hagree c
  obtain ⟨h0, h1, h2, h3, h4, h5, h6, h7, hk⟩ := h c
  have f0 : StableHlo.launchContents m' c (Proc.devRef .tc Cert.ReferenceInIdeal.main_arg0) = (args m c).x := e0
  have f1 : StableHlo.launchContents m' c (Proc.devRef .tc Cert.ReferenceInIdeal.main_arg1) = (args m c).cos := e1
  have f2 : StableHlo.launchContents m' c (Proc.devRef .tc Cert.ReferenceInIdeal.main_arg2) = (args m c).sin := e2
  have f3 : StableHlo.launchContents m' c (Proc.devRef .tc Cert.ReferenceInIdeal.main_arg3) = (args m c).ng := e3
  have f4 : StableHlo.launchContents m' c (Proc.devRef .tc Cert.ReferenceInIdeal.main_arg4) = (args m c).win := e4
  have f5 : StableHlo.launchContents m' c (Proc.devRef .tc Cert.ReferenceInIdeal.main_arg5) = (args m c).gql := e5
  have f6 : StableHlo.launchContents m' c (Proc.devRef .tc Cert.ReferenceInIdeal.main_arg6) = (args m c).wuq := e6
  have f7 : StableHlo.launchContents m' c (Proc.devRef .tc Cert.ReferenceInIdeal.main_arg7) = (args m c).gkv := e7
  have f8 : StableHlo.launchContents m' c (Proc.devRef .tc Cert.ReferenceInIdeal.main_arg8) = (args m c).wuk := e8
  have f9 : StableHlo.launchContents m' c (Proc.devRef .tc Cert.ReferenceInIdeal.main_arg9) = (args m c).wuv := e9
  have f10 : StableHlo.launchContents m' c (Proc.devRef .tc Cert.ReferenceInIdeal.main_arg10) = (args m c).gqn := e10
  have f11 : StableHlo.launchContents m' c (Proc.devRef .tc Cert.ReferenceInIdeal.main_arg11) = (args m c).gqr := e11
  have f12 : StableHlo.launchContents m' c (Proc.devRef .tc Cert.ReferenceInIdeal.main_arg12) = (args m c).gkn := e12
  have f13 : StableHlo.launchContents m' c (Proc.devRef .tc Cert.ReferenceInIdeal.main_arg13) = (args m c).gkr := e13
  refine ⟨h0.trans ?_, h1.trans ?_, h2.trans ?_, h3.trans ?_, h4.trans ?_, h5.trans ?_, h6.trans ?_, h7.trans ?_, hk⟩
  · rw [val_main_v156_eq, f0, f3, f4, f7]
    exact result_lat (args m c)
  · rw [val_main_v157_eq, f0, f1, f2, f3, f4, f13]
    exact result_kr (args m c)
  · rw [val_main_v159_eq, f0, f1, f2, f3, f4, f5, f6, f10, f11]
    exact result_q (args m c)
  · rw [val_main_v161_eq, f0, f1, f2, f3, f4, f7, f8, f12, f13]
    exact result_k (args m c)
  · rw [val_main_v163_eq, f0, f3, f4, f7, f9]
    exact result_v (args m c)
  · rw [val_main_v164_eq, f0, f3, f4]
    exact result_gate (args m c)
  · rw [val_main_v165_eq, f0, f3, f4]
    exact result_u (args m c)
  · rw [val_main_v166_eq, f0, f3, f4]
    exact result_state (args m c)

end Cert.Proof.In

end
-- ==== Proof.lean ====
/-
  THE CERTIFICATE: the claims of the attention and of the calls beside it, assembled.
-/
module

public import proofs.«01_k».proof.Defs
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.KernelOut.Skeleton
public import proofs.«01_k».proof.Proof.Gen.KernelOutIdeal.Skeleton
public import proofs.«01_k».proof.Proof.Gen.KernelOut.Launch
public import proofs.«01_k».proof.Proof.Gen.KernelOutIdeal.Launch
public import proofs.«01_k».proof.Proof.Gen.KernelOut.Points
public import proofs.«01_k».proof.Proof.Gen.KernelOutIdeal.Points
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelIn.Skeleton
public import proofs.«01_k».proof.Proof.Gen.KernelInIdeal.Skeleton
public import proofs.«01_k».proof.Proof.Gen.KernelIn.Launch
public import proofs.«01_k».proof.Proof.Gen.KernelInIdeal.Launch
public import proofs.«01_k».proof.Proof.Gen.KernelIn.Points
public import proofs.«01_k».proof.Proof.Gen.KernelInIdeal.Points
public import proofs.«01_k».proof.Proof.InRun
public import proofs.«01_k».proof.Proof.InRunIdeal
public import proofs.«01_k».proof.Proof.Gen.ReferenceInIdeal.Run
public import proofs.«01_k».proof.Proof.Gen.ReferenceInIdeal.Read
public import proofs.«01_k».proof.Proof.AttnClaims
public import proofs.«01_k».proof.Proof.OutClaims
public import proofs.«01_k».proof.Proof.InClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelOut.Gen.facts, Cert.KernelOutIdeal.Gen.facts, Cert.ReferenceOutIdeal.Gen.facts,
    Cert.KernelIn.Gen.facts, Cert.KernelInIdeal.Gen.facts, Cert.ReferenceInIdeal.Gen.facts,
    Cert.Pre_finite_scores.Gen.facts,
    fun m ρ _ => Kernel.unchanged m ρ, fun m ρ _ => KernelIdeal.unchanged m ρ, fun m ρ _ => KernelIdeal.unchanged m ρ,
    Attention.frame_reference, fun m ρ _ => Attention.frame_reference m ρ trivial,
    fun m ρ _ => Cert.KernelOut.Gen.frame m ρ, fun m ρ _ => Cert.KernelOutIdeal.Gen.frame m ρ, Out.frame_reference,
    fun m ρ _ => Cert.KernelIn.Gen.frame m ρ, fun m ρ _ => Cert.KernelInIdeal.Gen.frame m ρ, In.frame_reference,
    IdealRules.named_const.statement Cert.KernelIdeal.κ "mask" .f32 0xF149F2CA#32 ⊥ rfl,
    Attention.algebraic,
    trivial, Out.algebraic,
    trivial, In.algebraic⟩

end Cert.Proof

end
